-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_tame [hPre_tame : Cert.Pre_tame.Facts] (m : (ℓ : Loc Cert.KernelIdeal.nD Cert.KernelIdeal.τ Cert.KernelIdeal.sig) → Buf (Elt Ideal) ℓ) : Prop :=
  ∀ c : Dev Cert.KernelIdeal.nD,
    (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tame [hPre_tame : Cert.Pre_tame.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_KernelIdeal_pre_tame [hKernelIdeal : Cert.KernelIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_tame m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def quiescent_ReferenceIdeal_pre_tame [hReferenceIdeal : Cert.ReferenceIdeal.Facts] [hPre_tame : Cert.Pre_tame.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tame m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def preserves_Kernel_KernelIdeal : Prop :=
  True

def algebraic_KernelIdeal_ReferenceIdeal_pre_tame [hKernelIdeal : Cert.KernelIdeal.Facts] [hReferenceIdeal : Cert.ReferenceIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_tame m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v22)) (v1 : (c : Dev Cert.KernelIdeal.nD) → Buf (Elt Ideal) ((c.tc : Thread Cert.KernelIdeal.nD Cert.KernelIdeal.τ).loc Cert.KernelIdeal.main_v23)) (v2 : (c : Dev Cert.KernelIdeal.nD) → Buf (Elt Ideal) ((c.tc : Thread Cert.KernelIdeal.nD Cert.KernelIdeal.τ).loc Cert.KernelIdeal.main_v24)) (v3 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_v23) = v1 c
          ∧ r.2.mem ((c.tc : Thread Cert.KernelIdeal.nD Cert.KernelIdeal.τ).loc Cert.KernelIdeal.main_v24) = v2 c
          ∧ r.2.mem ((c.tc : Thread Cert.KernelIdeal.nD Cert.KernelIdeal.τ).loc Cert.KernelIdeal.main_v25) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v277) = v0 c
          ∧ r.2.mem ((c.tc : Thread Cert.ReferenceIdeal.nD Cert.ReferenceIdeal.τ).loc Cert.ReferenceIdeal.main_v395) = v1 c
          ∧ r.2.mem ((c.tc : Thread Cert.ReferenceIdeal.nD Cert.ReferenceIdeal.τ).loc Cert.ReferenceIdeal.main_v79) = v2 c
          ∧ r.2.mem ((c.tc : Thread Cert.ReferenceIdeal.nD Cert.ReferenceIdeal.τ).loc Cert.ReferenceIdeal.main_v159) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_tame : Cert.Pre_tame.Facts),
    quiescent_Kernel (hKernel := hKernel)
    ∧ quiescent_KernelIdeal (hKernelIdeal := hKernelIdeal)
    ∧ quiescent_KernelIdeal_pre_tame (hKernelIdeal := hKernelIdeal) (hPre_tame := hPre_tame)
    ∧ quiescent_ReferenceIdeal (hReferenceIdeal := hReferenceIdeal)
    ∧ quiescent_ReferenceIdeal_pre_tame (hReferenceIdeal := hReferenceIdeal) (hPre_tame := hPre_tame)
    ∧ preserves_Kernel_KernelIdeal
    ∧ algebraic_KernelIdeal_ReferenceIdeal_pre_tame (hKernelIdeal := hKernelIdeal) (hReferenceIdeal := hReferenceIdeal) (hPre_tame := hPre_tame)
-- ==== Pre_tame.lean ====
abbrev S2x32x56x56 : Shape := ⟨4, ![2, 32, 56, 56]⟩
abbrev S32x32x3x3 : Shape := ⟨4, ![32, 32, 3, 3]⟩
abbrev S32 : Shape := ⟨1, ![32]⟩
abbrev S1x32x3x3 : Shape := ⟨4, ![1, 32, 3, 3]⟩
abbrev S96x32x1x1 : Shape := ⟨4, ![96, 32, 1, 1]⟩
abbrev S32x32x1x1 : Shape := ⟨4, ![32, 32, 1, 1]⟩
abbrev S4x121 : Shape := ⟨2, ![4, 121]⟩
abbrev S_ : Shape := ⟨0, ![]⟩

class Facts : Prop where
  bcast_S_S2x32x56x56 : S_.BroadcastsInDim S2x32x56x56 (![] : Fin 0 → Fin S2x32x56x56.rank)
  reducesTo_S2x32x56x56_S_d0_1_2_3 : S2x32x56x56.ReducesTo [0, 1, 2, 3] S_
  h_S_ : 0 < S_.numel
  bcast_S_S32 : S_.BroadcastsInDim S32 (![] : Fin 0 → Fin S32.rank)
  reducesTo_S32_S_d0 : S32.ReducesTo [0] S_
  bcast_S_S96x32x1x1 : S_.BroadcastsInDim S96x32x1x1 (![] : Fin 0 → Fin S96x32x1x1.rank)
  reducesTo_S96x32x1x1_S_d0_1_2_3 : S96x32x1x1.ReducesTo [0, 1, 2, 3] S_
  bcast_S_S4x121 : S_.BroadcastsInDim S4x121 (![] : Fin 0 → Fin S4x121.rank)
  reducesTo_S4x121_S_d0_1 : S4x121.ReducesTo [0, 1] S_

variable [Facts]

def fn_part2 {F : FTy → Type} [FloatOps F] (main_v28 : IVec S_ 1) (main_v32 : IVec S32 1) (main_c_12 : IVec S_ 1) : IVec S_ 1 :=
  let main_v33 : IVec S_ 1 := (fun x v => Host.reduce IntOp.andi x v reducesTo_S32_S_d0 h_S_) main_v32 main_c_12
  let main_v34 : IVec S_ 1 := andi main_v28 main_v33
  main_v34

def fn_part1 {F : FTy → Type} [FloatOps F] (main_arg6 : FVec F S32 .f32) (main_arg9 : FVec F S96x32x1x1 .f32) (main_arg12 : FVec F S4x121 .f32) (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  let main_v19 : FVec F S96x32x1x1 .f32 := Host.absf main_arg9
  let main_cst_6 : FVec F S_ .f32 := constant S_ .f32 0x7F800000#32
  let main_v20 : FVec F S96x32x1x1 .f32 := broadcastInDim S96x32x1x1 ![] bcast_S_S96x32x1x1 main_cst_6
  let main_v21 : IVec S96x32x1x1 1 := cmpf .olt main_v19 main_v20
  let main_c_7 : IVec S_ 1 := constantI S_ 1 1#1
  let main_v22 : IVec S_ 1 := (fun x v => Host.reduce IntOp.andi x v reducesTo_S96x32x1x1_S_d0_1_2_3 h_S_) main_v21 main_c_7
  let main_v23 : IVec S_ 1 := andi main_v18 main_v22
  let main_v24 : FVec F S4x121 .f32 := Host.absf main_arg12
  let main_cst_8 : FVec F S_ .f32 := constant S_ .f32 0x7F800000#32
  let main_v25 : FVec F S4x121 .f32 := broadcastInDim S4x121 ![] bcast_S_S4x121 main_cst_8
  let main_v26 : IVec S4x121 1 := cmpf .olt main_v24 main_v25
  let main_c_9 : IVec S_ 1 := constantI S_ 1 1#1
  let main_v27 : IVec S_ 1 := (fun x v => Host.reduce IntOp.andi x v reducesTo_S4x121_S_d0_1 h_S_) main_v26 main_c_9
  let main_v28 : IVec S_ 1 := andi main_v23 main_v27
  let main_cst_10 : FVec F S_ .f32 := constant S_ .f32 0x3727C5AC#32
  let main_v29 : FVec F S32 .f32 := broadcastInDim S32 ![] bcast_S_S32 main_cst_10
  let main_v30 : FVec F S32 .f32 := addf main_arg6 main_v29
  let main_cst_11 : FVec F S_ .f32 := constant S_ .f32 0x00000000#32
  let main_v31 : FVec F S32 .f32 := broadcastInDim S32 ![] bcast_S_S32 main_cst_11
  let main_v32 : IVec S32 1 := cmpf .une main_v30 main_v31
  let main_c_12 : IVec S_ 1 := constantI S_ 1 1#1
  fn_part2 (F := F) main_v28 main_v32 main_c_12

def fn {F : FTy → Type} [FloatOps F] (main_arg0 : FVec F S2x32x56x56 .f32) (main_arg1 : FVec F S2x32x56x56 .f32) (main_arg2 : FVec F S32x32x3x3 .f32) (main_arg3 : FVec F S32 .f32) (main_arg4 : FVec F S32 .f32) (main_arg5 : FVec F S32 .f32) (main_arg6 : FVec F S32 .f32) (main_arg7 : FVec F S32x32x3x3 .f32) (main_arg8 : FVec F S1x32x3x3 .f32) (main_arg9 : FVec F S96x32x1x1 .f32) (main_arg10 : FVec F S32x32x1x1 .f32) (main_arg11 : FVec F S32 .f32) (main_arg12 : FVec F S4x121 .f32) : IVec S_ 1 :=
  let main_v0 : FVec F S2x32x56x56 .f32 := Host.absf main_arg0
  let main_cst : FVec F S_ .f32 := constant S_ .f32 0x7F800000#32
  let main_v1 : FVec F S2x32x56x56 .f32 := broadcastInDim S2x32x56x56 ![] bcast_S_S2x32x56x56 main_cst
  let main_v2 : IVec S2x32x56x56 1 := cmpf .olt main_v0 main_v1
  let main_c : IVec S_ 1 := constantI S_ 1 1#1
  let main_v3 : IVec S_ 1 := (fun x v => Host.reduce IntOp.andi x v reducesTo_S2x32x56x56_S_d0_1_2_3 h_S_) main_v2 main_c
  let main_v4 : FVec F S2x32x56x56 .f32 := Host.absf main_arg1
  let main_cst_0 : FVec F S_ .f32 := constant S_ .f32 0x7F800000#32
  let main_v5 : FVec F S2x32x56x56 .f32 := broadcastInDim S2x32x56x56 ![] bcast_S_S2x32x56x56 main_cst_0
  let main_v6 : IVec S2x32x56x56 1 := cmpf .olt main_v4 main_v5
  let main_c_1 : IVec S_ 1 := constantI S_ 1 1#1
  let main_v7 : IVec S_ 1 := (fun x v => Host.reduce IntOp.andi x v reducesTo_S2x32x56x56_S_d0_1_2_3 h_S_) main_v6 main_c_1
  let main_v8 : IVec S_ 1 := andi main_v3 main_v7
  let main_v9 : FVec F S32 .f32 := Host.absf main_arg3
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32 .f32 := Host.absf main_arg5
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_arg6 main_arg9 main_arg12 main_v13 main_v16
-- ==== Kernel.lean ====
abbrev S2x32x56x56 : Shape := ⟨4, ![2, 32, 56, 56]⟩
abbrev S32x32x3x3 : Shape := ⟨4, ![32, 32, 3, 3]⟩
abbrev S32 : Shape := ⟨1, ![32]⟩
abbrev S1x32x3x3 : Shape := ⟨4, ![1, 32, 3, 3]⟩
abbrev S96x32x1x1 : Shape := ⟨4, ![96, 32, 1, 1]⟩
abbrev S32x32x1x1 : Shape := ⟨4, ![32, 32, 1, 1]⟩
abbrev S4x121 : Shape := ⟨2, ![4, 121]⟩
abbrev S4x32x56x56 : Shape := ⟨4, ![4, 32, 56, 56]⟩
abbrev S_ : Shape := ⟨0, ![]⟩
abbrev S32x1 : Shape := ⟨2, ![32, 1]⟩
abbrev S3x3x32x32 : Shape := ⟨4, ![3, 3, 32, 32]⟩
abbrev S9x32x32 : Shape := ⟨3, ![9, 32, 32]⟩
abbrev S3x3x1x32 : Shape := ⟨4, ![3, 3, 1, 32]⟩
abbrev S9x1x32 : Shape := ⟨3, ![9, 1, 32]⟩
abbrev S96x32 : Shape := ⟨2, ![96, 32]⟩
abbrev S32x32 : Shape := ⟨2, ![32, 32]⟩
abbrev S4x11x11 : Shape := ⟨3, ![4, 11, 11]⟩
abbrev S11x4x11 : Shape := ⟨3, ![11, 4, 11]⟩
abbrev S4x1x56x56 : Shape := ⟨4, ![4, 1, 56, 56]⟩
abbrev S1x32x56x56 : Shape := ⟨4, ![1, 32, 56, 56]⟩
abbrev S1x1x56x56 : Shape := ⟨4, ![1, 1, 56, 56]⟩
abbrev S11x44x3696 : Shape := ⟨3, ![11, 44, 3696]⟩
abbrev S11x32x3712 : Shape := ⟨3, ![11, 32, 3712]⟩
abbrev S11x1x3712 : Shape := ⟨3, ![11, 1, 3712]⟩
abbrev S32x56x56 : Shape := ⟨3, ![32, 56, 56]⟩
abbrev S32x1x56 : Shape := ⟨3, ![32, 1, 56]⟩
abbrev S32x57x56 : Shape := ⟨3, ![32, 57, 56]⟩
abbrev S32x58x56 : Shape := ⟨3, ![32, 58, 56]⟩
abbrev S32x58x1 : Shape := ⟨3, ![32, 58, 1]⟩
abbrev S32x58x57 : Shape := ⟨3, ![32, 58, 57]⟩
abbrev S32x58x58 : Shape := ⟨3, ![32, 58, 58]⟩
abbrev S32x3136 : Shape := ⟨2, ![32, 3136]⟩
abbrev S1x32x32 : Shape := ⟨3, ![1, 32, 32]⟩
abbrev S1x1x32 : Shape := ⟨3, ![1, 1, 32]⟩
abbrev S1x32 : Shape := ⟨2, ![1, 32]⟩
abbrev S1x3136 : Shape := ⟨2, ![1, 3136]⟩
abbrev S1x56x56 : Shape := ⟨3, ![1, 56, 56]⟩
abbrev S56x56 : Shape := ⟨2, ![56, 56]⟩
abbrev S96x3136 : Shape := ⟨2, ![96, 3136]⟩
abbrev S32x56x10 : Shape := ⟨3, ![32, 56, 10]⟩
abbrev S32x56x66 : Shape := ⟨3, ![32, 56, 66]⟩
abbrev S32x3696 : Shape := ⟨2, ![32, 3696]⟩
abbrev S32x5x56 : Shape := ⟨3, ![32, 5, 56]⟩
abbrev S32x61x56 : Shape := ⟨3, ![32, 61, 56]⟩
abbrev S32x66x56 : Shape := ⟨3, ![32, 66, 56]⟩
abbrev S32x66x5 : Shape := ⟨3, ![32, 66, 5]⟩
abbrev S32x66x61 : Shape := ⟨3, ![32, 66, 61]⟩
abbrev S32x66x66 : Shape := ⟨3, ![32, 66, 66]⟩
abbrev S32x4356 : Shape := ⟨2, ![32, 4356]⟩
abbrev S1x5x56 : Shape := ⟨3, ![1, 5, 56]⟩
abbrev S1x61x56 : Shape := ⟨3, ![1, 61, 56]⟩
abbrev S1x66x56 : Shape := ⟨3, ![1, 66, 56]⟩
abbrev S1x66x5 : Shape := ⟨3, ![1, 66, 5]⟩
abbrev S1x66x61 : Shape := ⟨3, ![1, 66, 61]⟩
abbrev S1x66x66 : Shape := ⟨3, ![1, 66, 66]⟩
abbrev S1x4356 : Shape := ⟨2, ![1, 4356]⟩
abbrev S32x16 : Shape := ⟨2, ![32, 16]⟩
abbrev S32x4372 : Shape := ⟨2, ![32, 4372]⟩
abbrev S1x16 : Shape := ⟨2, ![1, 16]⟩
abbrev S1x4372 : Shape := ⟨2, ![1, 4372]⟩
abbrev S32x3712 : Shape := ⟨2, ![32, 3712]⟩
abbrev S1x32x3712 : Shape := ⟨3, ![1, 32, 3712]⟩
abbrev S1x3712 : Shape := ⟨2, ![1, 3712]⟩
abbrev S1x1x3712 : Shape := ⟨3, ![1, 1, 3712]⟩
abbrev S4x32 : Shape := ⟨2, ![4, 32]⟩
abbrev S1x4x11 : Shape := ⟨3, ![1, 4, 11]⟩
abbrev S4x11 : Shape := ⟨2, ![4, 11]⟩
abbrev S4x3696 : Shape := ⟨2, ![4, 3696]⟩
abbrev S1x3696 : Shape := ⟨2, ![1, 3696]⟩
abbrev S4x1 : Shape := ⟨2, ![4, 1]⟩
abbrev S4 : Shape := ⟨1, ![4]⟩
abbrev S1x4x3696 : Shape := ⟨3, ![1, 4, 3696]⟩
abbrev S11x4x3696 : Shape := ⟨3, ![11, 4, 3696]⟩
abbrev S44x3696 : Shape := ⟨2, ![44, 3696]⟩
abbrev S1x44x3696 : Shape := ⟨3, ![1, 44, 3696]⟩
abbrev S121x4x3696 : Shape := ⟨3, ![121, 4, 3696]⟩
abbrev S4x8x3696 : Shape := ⟨3, ![4, 8, 3696]⟩
abbrev S4x1x3696 : Shape := ⟨3, ![4, 1, 3696]⟩
abbrev S1x56x10 : Shape := ⟨3, ![1, 56, 10]⟩
abbrev S1x56x66 : Shape := ⟨3, ![1, 56, 66]⟩
abbrev S2x1x56x56 : Shape := ⟨4, ![2, 1, 56, 56]⟩

abbrev nBuf : Space → Nat
  | .hbm => 41
  | .vmem => 19
  | .smem => 0
  | _ => 0

abbrev bufTy : (tb : Table) → Fin (tcTables nBuf tb) → BufTy
  | .hbm, ⟨0, _⟩ => ⟨S2x32x56x56, .f32⟩
  | .hbm, ⟨1, _⟩ => ⟨S2x32x56x56, .f32⟩
  | .hbm, ⟨2, _⟩ => ⟨S32x32x3x3, .f32⟩
  | .hbm, ⟨3, _⟩ => ⟨S32, .f32⟩
  | .hbm, ⟨4, _⟩ => ⟨S32, .f32⟩
  | .hbm, ⟨5, _⟩ => ⟨S32, .f32⟩
  | .hbm, ⟨6, _⟩ => ⟨S32, .f32⟩
  | .hbm, ⟨7, _⟩ => ⟨S32x32x3x3, .f32⟩
  | .hbm, ⟨8, _⟩ => ⟨S1x32x3x3, .f32⟩
  | .hbm, ⟨9, _⟩ => ⟨S96x32x1x1, .f32⟩
  | .hbm, ⟨10, _⟩ => ⟨S32x32x1x1, .f32⟩
  | .hbm, ⟨11, _⟩ => ⟨S32, .f32⟩
  | .hbm, ⟨12, _⟩ => ⟨S4x121, .f32⟩
  | .hbm, ⟨13, _⟩ => ⟨S4x32x56x56, .f32⟩
  | .hbm, ⟨14, _⟩ => ⟨S_, .f32⟩
  | .hbm, ⟨15, _⟩ => ⟨S32, .f32⟩
  | .hbm, ⟨16, _⟩ => ⟨S32, .f32⟩
  | .hbm, ⟨17, _⟩ => ⟨S32, .f32⟩
  | .hbm, ⟨18, _⟩ => ⟨S32, .f32⟩
  | .hbm, ⟨19, _⟩ => ⟨S32x1, .f32⟩
  | .hbm, ⟨20, _⟩ => ⟨S32, .f32⟩
  | .hbm, ⟨21, _⟩ => ⟨S32, .f32⟩
  | .hbm, ⟨22, _⟩ => ⟨S32, .f32⟩
  | .hbm, ⟨23, _⟩ => ⟨S32x1, .f32⟩
  | .hbm, ⟨24, _⟩ => ⟨S3x3x32x32, .f32⟩
  | .hbm, ⟨25, _⟩ => ⟨S9x32x32, .f32⟩
  | .hbm, ⟨26, _⟩ => ⟨S3x3x32x32, .f32⟩
  | .hbm, ⟨27, _⟩ => ⟨S9x32x32, .f32⟩
  | .hbm, ⟨28, _⟩ => ⟨S3x3x1x32, .f32⟩
  | .hbm, ⟨29, _⟩ => ⟨S9x1x32, .f32⟩
  | .hbm, ⟨30, _⟩ => ⟨S96x32, .f32⟩
  | .hbm, ⟨31, _⟩ => ⟨S32x32, .f32⟩
  | .hbm, ⟨32, _⟩ => ⟨S32x1, .f32⟩
  | .hbm, ⟨33, _⟩ => ⟨S4x11x11, .f32⟩
  | .hbm, ⟨34, _⟩ => ⟨S11x4x11, .f32⟩
  | .hbm, ⟨35, _⟩ => ⟨S4x32x56x56, .f32⟩
  | .hbm, ⟨36, _⟩ => ⟨S4x1x56x56, .f32⟩
  | .hbm, ⟨37, _⟩ => ⟨S2x32x56x56, .f32⟩
  | .hbm, ⟨38, _⟩ => ⟨S2x32x56x56, .f32⟩
  | .hbm, ⟨39, _⟩ => ⟨S2x1x56x56, .f32⟩
  | .hbm, ⟨40, _⟩ => ⟨S2x1x56x56, .f32⟩
  | .local _ .vmem, ⟨0, _⟩ => ⟨S1x32x56x56, .f32⟩
  | .local _ .vmem, ⟨1, _⟩ => ⟨S1x32x56x56, .f32⟩
  | .local _ .vmem, ⟨2, _⟩ => ⟨S9x32x32, .f32⟩
  | .local _ .vmem, ⟨3, _⟩ => ⟨S32x1, .f32⟩
  | .local _ .vmem, ⟨4, _⟩ => ⟨S32x1, .f32⟩
  | .local _ .vmem, ⟨5, _⟩ => ⟨S9x32x32, .f32⟩
  | .local _ .vmem, ⟨6, _⟩ => ⟨S9x1x32, .f32⟩
  | .local _ .vmem, ⟨7, _⟩ => ⟨S96x32, .f32⟩
  | .local _ .vmem, ⟨8, _⟩ => ⟨S32x32, .f32⟩
  | .local _ .vmem, ⟨9, _⟩ => ⟨S32x1, .f32⟩
  | .local _ .vmem, ⟨10, _⟩ => ⟨S11x4x11, .f32⟩
  | .local _ .vmem, ⟨11, _⟩ => ⟨S1x32x56x56, .f32⟩
  | .local _ .vmem, ⟨12, _⟩ => ⟨S1x32x56x56, .f32⟩
  | .local _ .vmem, ⟨13, _⟩ => ⟨S1x1x56x56, .f32⟩
  | .local _ .vmem, ⟨14, _⟩ => ⟨S1x1x56x56, .f32⟩
  | .local _ .vmem, ⟨15, _⟩ => ⟨S11x44x3696, .f32⟩
  | .local _ .vmem, ⟨16, _⟩ => ⟨S11x32x3712, .f32⟩
  | .local _ .vmem, ⟨17, _⟩ => ⟨S11x32x3712, .f32⟩
  | .local _ .vmem, ⟨18, _⟩ => ⟨S11x1x3712, .f32⟩
  | _, _ => ⟨S2x32x56x56, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_cst : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21_0 : Ref sig .tc := ⟨.hbm, 35, rfl⟩
abbrev main_v21_1 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_stg11_0 : Ref sig .tc := ⟨.vmem, 13, rfl⟩
abbrev cc0_stg11_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_scratch3 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12
abbrev cc0_sem11_0 : DmaSem sig := 13
abbrev cc0_sem11_1 : DmaSem sig := 14

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32_155 : BitVec 32 := 0#32
  let c11_i32 : BitVec 32 := 11#32
  let v433 : BitVec 32 := Scalar.addi c0_i32_155 c11_i32
  let c1_i32_156 : BitVec 32 := 1#32
  ⟨c0_i32_155, v433, c1_i32_156⟩
def k0_off1 (k0_t1 : Fin k0_t1_loop.trips) : Fin 3 → Nat :=
  let c0_i32_155 : BitVec 32 := 0#32
  let c1_i32_156 : BitVec 32 := 1#32
  let arg17 : BitVec 32 := Scf.iv c0_i32_155 c1_i32_156 k0_t1
  let v483 : Index := Scalar.indexCast arg17
  let c0_184 : Index := 0#32
  let c0_185 : Index := 0#32
  ![v483.toNat, 0, 0]
def k0_off2 (k0_t1 : Fin k0_t1_loop.trips) : Fin 3 → Nat :=
  let c0_i32_155 : BitVec 32 := 0#32
  let c1_i32_156 : BitVec 32 := 1#32
  let arg17 : BitVec 32 := Scf.iv c0_i32_155 c1_i32_156 k0_t1
  let v486 : Index := Scalar.indexCast arg17
  let c0_186 : Index := 0#32
  let c0_187 : Index := 0#32
  ![v486.toNat, 0, 0]
def k0_off3 (k0_t1 : Fin k0_t1_loop.trips) : Fin 3 → Nat :=
  let c0_i32_155 : BitVec 32 := 0#32
  let c1_i32_156 : BitVec 32 := 1#32
  let arg17 : BitVec 32 := Scf.iv c0_i32_155 c1_i32_156 k0_t1
  let v489 : Index := Scalar.indexCast arg17
  let c0_188 : Index := 0#32
  let c0_189 : Index := 0#32
  ![v489.toNat, 0, 0]
def k0_off4 (k0_t1 : Fin k0_t1_loop.trips) : Fin 3 → Nat :=
  let c0_i32_155 : BitVec 32 := 0#32
  let c1_i32_156 : BitVec 32 := 1#32
  let arg17 : BitVec 32 := Scf.iv c0_i32_155 c1_i32_156 k0_t1
  let v648 : Index := Scalar.indexCast arg17
  let c0_212 : Index := 0#32
  let c0_213 : Index := 0#32
  ![v648.toNat, 0, 0]
@[reducible] def k0_t2_loop : Scf.Loop 32 :=
  let c0_i32_168 : BitVec 32 := 0#32
  let c11_i32_169 : BitVec 32 := 11#32
  let v452 : BitVec 32 := Scalar.addi c0_i32_168 c11_i32_169
  let c1_i32_170 : BitVec 32 := 1#32
  ⟨c0_i32_168, v452, c1_i32_170⟩
def k0_off5 (k0_t2 : Fin k0_t2_loop.trips) : Fin 3 → Nat :=
  let c0_i32_168 : BitVec 32 := 0#32
  let c1_i32_170 : BitVec 32 := 1#32
  let arg17 : BitVec 32 := Scf.iv c0_i32_168 c1_i32_170 k0_t2
  let v483 : Index := Scalar.indexCast arg17
  let c0_184 : Index := 0#32
  let c0_185 : Index := 0#32
  ![v483.toNat, 0, 0]
def k0_off6 (k0_t2 : Fin k0_t2_loop.trips) : Fin 3 → Nat :=
  let c0_i32_168 : BitVec 32 := 0#32
  let c1_i32_170 : BitVec 32 := 1#32
  let arg17 : BitVec 32 := Scf.iv c0_i32_168 c1_i32_170 k0_t2
  let v486 : Index := Scalar.indexCast arg17
  let c0_186 : Index := 0#32
  let c0_187 : Index := 0#32
  ![v486.toNat, 0, 0]
def k0_off7 (k0_t2 : Fin k0_t2_loop.trips) : Fin 3 → Nat :=
  let c0_i32_168 : BitVec 32 := 0#32
  let c1_i32_170 : BitVec 32 := 1#32
  let arg17 : BitVec 32 := Scf.iv c0_i32_168 c1_i32_170 k0_t2
  let v489 : Index := Scalar.indexCast arg17
  let c0_188 : Index := 0#32
  let c0_189 : Index := 0#32
  ![v489.toNat, 0, 0]
def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_11 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x32x56x56 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S9x32x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S9x32x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S9x1x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S96x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S32x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S32x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S11x4x11 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1x32x56x56 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x1x56x56 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== ReferenceIdeal.lean ====
abbrev S2x32x56x56 : Shape := ⟨4, ![2, 32, 56, 56]⟩
abbrev S32x32x3x3 : Shape := ⟨4, ![32, 32, 3, 3]⟩
abbrev S32 : Shape := ⟨1, ![32]⟩
abbrev S1x32x3x3 : Shape := ⟨4, ![1, 32, 3, 3]⟩
abbrev S96x32x1x1 : Shape := ⟨4, ![96, 32, 1, 1]⟩
abbrev S32x32x1x1 : Shape := ⟨4, ![32, 32, 1, 1]⟩
abbrev S4x121 : Shape := ⟨2, ![4, 121]⟩
abbrev S32x288 : Shape := ⟨2, ![32, 288]⟩
abbrev S_ : Shape := ⟨0, ![]⟩
abbrev S2x32x58x58 : Shape := ⟨4, ![2, 32, 58, 58]⟩
abbrev S2x32x56x58 : Shape := ⟨4, ![2, 32, 56, 58]⟩
abbrev S2x32x1x56x58 : Shape := ⟨5, ![2, 32, 1, 56, 58]⟩
abbrev S2x32x3x56x58 : Shape := ⟨5, ![2, 32, 3, 56, 58]⟩
abbrev S2x32x3x56x56 : Shape := ⟨5, ![2, 32, 3, 56, 56]⟩
abbrev S2x32x3x1x56x56 : Shape := ⟨6, ![2, 32, 3, 1, 56, 56]⟩
abbrev S2x32x3x3x56x56 : Shape := ⟨6, ![2, 32, 3, 3, 56, 56]⟩
abbrev S2x288x56x56 : Shape := ⟨4, ![2, 288, 56, 56]⟩
abbrev S2x56x56x32 : Shape := ⟨4, ![2, 56, 56, 32]⟩
abbrev S1x32x1x1 : Shape := ⟨4, ![1, 32, 1, 1]⟩
abbrev S1x288 : Shape := ⟨2, ![1, 288]⟩
abbrev S2x56x56x1 : Shape := ⟨4, ![2, 56, 56, 1]⟩
abbrev S2x1x56x56 : Shape := ⟨4, ![2, 1, 56, 56]⟩
abbrev S96x32 : Shape := ⟨2, ![96, 32]⟩
abbrev S2x56x56x96 : Shape := ⟨4, ![2, 56, 56, 96]⟩
abbrev S2x96x56x56 : Shape := ⟨4, ![2, 96, 56, 56]⟩
abbrev S2x3x4x8x56x56 : Shape := ⟨6, ![2, 3, 4, 8, 56, 56]⟩
abbrev S2x1x4x8x56x56 : Shape := ⟨6, ![2, 1, 4, 8, 56, 56]⟩
abbrev S2x4x8x56x56 : Shape := ⟨5, ![2, 4, 8, 56, 56]⟩
abbrev S2x65x56x56 : Shape := ⟨4, ![2, 65, 56, 56]⟩
abbrev S2x65x66x66 : Shape := ⟨4, ![2, 65, 66, 66]⟩
abbrev S2x65x56x66 : Shape := ⟨4, ![2, 65, 56, 66]⟩
abbrev S2x65x1x56x66 : Shape := ⟨5, ![2, 65, 1, 56, 66]⟩
abbrev S2x65x11x56x66 : Shape := ⟨5, ![2, 65, 11, 56, 66]⟩
abbrev S2x65x11x56x56 : Shape := ⟨5, ![2, 65, 11, 56, 56]⟩
abbrev S2x65x11x1x56x56 : Shape := ⟨6, ![2, 65, 11, 1, 56, 56]⟩
abbrev S2x65x11x11x56x56 : Shape := ⟨6, ![2, 65, 11, 11, 56, 56]⟩
abbrev S2x65x121x56x56 : Shape := ⟨5, ![2, 65, 121, 56, 56]⟩
abbrev S2x1x121x56x56 : Shape := ⟨5, ![2, 1, 121, 56, 56]⟩
abbrev S2x1x1x121x3136 : Shape := ⟨5, ![2, 1, 1, 121, 3136]⟩
abbrev S2x32x121x56x56 : Shape := ⟨5, ![2, 32, 121, 56, 56]⟩
abbrev S2x4x8x121x3136 : Shape := ⟨5, ![2, 4, 8, 121, 3136]⟩
abbrev S2x4x8x3136 : Shape := ⟨4, ![2, 4, 8, 3136]⟩
abbrev S2x4x8x1x3136 : Shape := ⟨5, ![2, 4, 8, 1, 3136]⟩
abbrev S2x4x121x3136 : Shape := ⟨4, ![2, 4, 121, 3136]⟩
abbrev S1x4x121x1 : Shape := ⟨4, ![1, 4, 121, 1]⟩
abbrev S2x4x3136 : Shape := ⟨3, ![2, 4, 3136]⟩
abbrev S2x4x1x3136 : Shape := ⟨4, ![2, 4, 1, 3136]⟩
abbrev S2x4x1x121x3136 : Shape := ⟨5, ![2, 4, 1, 121, 3136]⟩
abbrev S2x3136 : Shape := ⟨2, ![2, 3136]⟩
abbrev S2x32x3136 : Shape := ⟨3, ![2, 32, 3136]⟩
abbrev S2x1x3136 : Shape := ⟨3, ![2, 1, 3136]⟩
abbrev S32x32 : Shape := ⟨2, ![32, 32]⟩

abbrev nBuf : Space → Nat
  | .hbm => 455
  | .vmem => 0
  | .smem => 0
  | _ => 0

abbrev hbmTy0_0 (i : Nat) : BufTy := match i % 128 with
  | 0 => ⟨S2x32x56x56, .f32⟩
  | 1 => ⟨S2x32x56x56, .f32⟩
  | 2 => ⟨S32x32x3x3, .f32⟩
  | 3 => ⟨S32, .f32⟩
  | 4 => ⟨S32, .f32⟩
  | 5 => ⟨S32, .f32⟩
  | 6 => ⟨S32, .f32⟩
  | 7 => ⟨S32x32x3x3, .f32⟩
  | 8 => ⟨S1x32x3x3, .f32⟩
  | 9 => ⟨S96x32x1x1, .f32⟩
  | 10 => ⟨S32x32x1x1, .f32⟩
  | 11 => ⟨S32, .f32⟩
  | 12 => ⟨S4x121, .f32⟩
  | 13 => ⟨S32x288, .f32⟩
  | 14 => ⟨S_, .i32⟩
  | 15 => ⟨S_, .f32⟩
  | 16 => ⟨S2x32x58x58, .f32⟩
  | 17 => ⟨S2x32x56x58, .f32⟩
  | 18 => ⟨S2x32x56x58, .f32⟩
  | 19 => ⟨S2x32x56x58, .f32⟩
  | 20 => ⟨S2x32x1x56x58, .f32⟩
  | 21 => ⟨S2x32x1x56x58, .f32⟩
  | 22 => ⟨S2x32x1x56x58, .f32⟩
  | 23 => ⟨S2x32x3x56x58, .f32⟩
  | 24 => ⟨S2x32x3x56x56, .f32⟩
  | 25 => ⟨S2x32x3x56x56, .f32⟩
  | 26 => ⟨S2x32x3x56x56, .f32⟩
  | 27 => ⟨S2x32x3x1x56x56, .f32⟩
  | 28 => ⟨S2x32x3x1x56x56, .f32⟩
  | 29 => ⟨S2x32x3x1x56x56, .f32⟩
  | 30 => ⟨S2x32x3x3x56x56, .f32⟩
  | 31 => ⟨S2x288x56x56, .f32⟩
  | 32 => ⟨S2x56x56x32, .f32⟩
  | 33 => ⟨S2x32x56x56, .f32⟩
  | 34 => ⟨S1x32x1x1, .f32⟩
  | 35 => ⟨S1x32x1x1, .f32⟩
  | 36 => ⟨S2x32x56x56, .f32⟩
  | 37 => ⟨S2x32x56x56, .f32⟩
  | 38 => ⟨S2x32x56x56, .f32⟩
  | 39 => ⟨S2x32x56x56, .f32⟩
  | 40 => ⟨S1x32x1x1, .f32⟩
  | 41 => ⟨S_, .f32⟩
  | 42 => ⟨S1x32x1x1, .f32⟩
  | 43 => ⟨S1x32x1x1, .f32⟩
  | 44 => ⟨S1x32x1x1, .f32⟩
  | 45 => ⟨S2x32x56x56, .f32⟩
  | 46 => ⟨S2x32x56x56, .f32⟩
  | 47 => ⟨S1x32x1x1, .f32⟩
  | 48 => ⟨S2x32x56x56, .f32⟩
  | 49 => ⟨S2x32x56x56, .f32⟩
  | 50 => ⟨S_, .f32⟩
  | 51 => ⟨S2x32x56x56, .f32⟩
  | 52 => ⟨S2x32x56x56, .f32⟩
  | 53 => ⟨S32x288, .f32⟩
  | 54 => ⟨S_, .i32⟩
  | 55 => ⟨S_, .f32⟩
  | 56 => ⟨S2x32x58x58, .f32⟩
  | 57 => ⟨S2x32x56x58, .f32⟩
  | 58 => ⟨S2x32x56x58, .f32⟩
  | 59 => ⟨S2x32x56x58, .f32⟩
  | 60 => ⟨S2x32x1x56x58, .f32⟩
  | 61 => ⟨S2x32x1x56x58, .f32⟩
  | 62 => ⟨S2x32x1x56x58, .f32⟩
  | 63 => ⟨S2x32x3x56x58, .f32⟩
  | 64 => ⟨S2x32x3x56x56, .f32⟩
  | 65 => ⟨S2x32x3x56x56, .f32⟩
  | 66 => ⟨S2x32x3x56x56, .f32⟩
  | 67 => ⟨S2x32x3x1x56x56, .f32⟩
  | 68 => ⟨S2x32x3x1x56x56, .f32⟩
  | 69 => ⟨S2x32x3x1x56x56, .f32⟩
  | 70 => ⟨S2x32x3x3x56x56, .f32⟩
  | 71 => ⟨S2x288x56x56, .f32⟩
  | 72 => ⟨S2x56x56x32, .f32⟩
  | 73 => ⟨S2x32x56x56, .f32⟩
  | 74 => ⟨S_, .f32⟩
  | 75 => ⟨S2x32x56x56, .f32⟩
  | 76 => ⟨S2x32x56x56, .f32⟩
  | 77 => ⟨S1x288, .f32⟩
  | 78 => ⟨S_, .i32⟩
  | 79 => ⟨S_, .f32⟩
  | 80 => ⟨S2x32x58x58, .f32⟩
  | 81 => ⟨S2x32x56x58, .f32⟩
  | 82 => ⟨S2x32x56x58, .f32⟩
  | 83 => ⟨S2x32x56x58, .f32⟩
  | 84 => ⟨S2x32x1x56x58, .f32⟩
  | 85 => ⟨S2x32x1x56x58, .f32⟩
  | 86 => ⟨S2x32x1x56x58, .f32⟩
  | 87 => ⟨S2x32x3x56x58, .f32⟩
  | 88 => ⟨S2x32x3x56x56, .f32⟩
  | 89 => ⟨S2x32x3x56x56, .f32⟩
  | 90 => ⟨S2x32x3x56x56, .f32⟩
  | 91 => ⟨S2x32x3x1x56x56, .f32⟩
  | 92 => ⟨S2x32x3x1x56x56, .f32⟩
  | 93 => ⟨S2x32x3x1x56x56, .f32⟩
  | 94 => ⟨S2x32x3x3x56x56, .f32⟩
  | 95 => ⟨S2x288x56x56, .f32⟩
  | 96 => ⟨S2x56x56x1, .f32⟩
  | 97 => ⟨S2x1x56x56, .f32⟩
  | 98 => ⟨S2x1x56x56, .f32⟩
  | 99 => ⟨S2x1x56x56, .f32⟩
  | 100 => ⟨S_, .f32⟩
  | 101 => ⟨S2x1x56x56, .f32⟩
  | 102 => ⟨S2x1x56x56, .f32⟩
  | 103 => ⟨S_, .f32⟩
  | 104 => ⟨S2x1x56x56, .f32⟩
  | 105 => ⟨S2x1x56x56, .f32⟩
  | 106 => ⟨S32x288, .f32⟩
  | 107 => ⟨S_, .i32⟩
  | 108 => ⟨S_, .f32⟩
  | 109 => ⟨S2x32x58x58, .f32⟩
  | 110 => ⟨S2x32x56x58, .f32⟩
  | 111 => ⟨S2x32x56x58, .f32⟩
  | 112 => ⟨S2x32x56x58, .f32⟩
  | 113 => ⟨S2x32x1x56x58, .f32⟩
  | 114 => ⟨S2x32x1x56x58, .f32⟩
  | 115 => ⟨S2x32x1x56x58, .f32⟩
  | 116 => ⟨S2x32x3x56x58, .f32⟩
  | 117 => ⟨S2x32x3x56x56, .f32⟩
  | 118 => ⟨S2x32x3x56x56, .f32⟩
  | 119 => ⟨S2x32x3x56x56, .f32⟩
  | 120 => ⟨S2x32x3x1x56x56, .f32⟩
  | 121 => ⟨S2x32x3x1x56x56, .f32⟩
  | 122 => ⟨S2x32x3x1x56x56, .f32⟩
  | 123 => ⟨S2x32x3x3x56x56, .f32⟩
  | 124 => ⟨S2x288x56x56, .f32⟩
  | 125 => ⟨S2x56x56x32, .f32⟩
  | 126 => ⟨S2x32x56x56, .f32⟩
  | 127 => ⟨S1x32x1x1, .f32⟩
  | _ => ⟨S2x32x56x56, .f32⟩

abbrev hbmTy0_1 (i : Nat) : BufTy := match i % 128 with
  | 0 => ⟨S1x32x1x1, .f32⟩
  | 1 => ⟨S2x32x56x56, .f32⟩
  | 2 => ⟨S2x32x56x56, .f32⟩
  | 3 => ⟨S2x32x56x56, .f32⟩
  | 4 => ⟨S2x32x56x56, .f32⟩
  | 5 => ⟨S1x32x1x1, .f32⟩
  | 6 => ⟨S_, .f32⟩
  | 7 => ⟨S1x32x1x1, .f32⟩
  | 8 => ⟨S1x32x1x1, .f32⟩
  | 9 => ⟨S1x32x1x1, .f32⟩
  | 10 => ⟨S2x32x56x56, .f32⟩
  | 11 => ⟨S2x32x56x56, .f32⟩
  | 12 => ⟨S1x32x1x1, .f32⟩
  | 13 => ⟨S2x32x56x56, .f32⟩
  | 14 => ⟨S2x32x56x56, .f32⟩
  | 15 => ⟨S_, .f32⟩
  | 16 => ⟨S2x32x56x56, .f32⟩
  | 17 => ⟨S2x32x56x56, .f32⟩
  | 18 => ⟨S32x288, .f32⟩
  | 19 => ⟨S_, .i32⟩
  | 20 => ⟨S_, .f32⟩
  | 21 => ⟨S2x32x58x58, .f32⟩
  | 22 => ⟨S2x32x56x58, .f32⟩
  | 23 => ⟨S2x32x56x58, .f32⟩
  | 24 => ⟨S2x32x56x58, .f32⟩
  | 25 => ⟨S2x32x1x56x58, .f32⟩
  | 26 => ⟨S2x32x1x56x58, .f32⟩
  | 27 => ⟨S2x32x1x56x58, .f32⟩
  | 28 => ⟨S2x32x3x56x58, .f32⟩
  | 29 => ⟨S2x32x3x56x56, .f32⟩
  | 30 => ⟨S2x32x3x56x56, .f32⟩
  | 31 => ⟨S2x32x3x56x56, .f32⟩
  | 32 => ⟨S2x32x3x1x56x56, .f32⟩
  | 33 => ⟨S2x32x3x1x56x56, .f32⟩
  | 34 => ⟨S2x32x3x1x56x56, .f32⟩
  | 35 => ⟨S2x32x3x3x56x56, .f32⟩
  | 36 => ⟨S2x288x56x56, .f32⟩
  | 37 => ⟨S2x56x56x32, .f32⟩
  | 38 => ⟨S2x32x56x56, .f32⟩
  | 39 => ⟨S_, .f32⟩
  | 40 => ⟨S2x32x56x56, .f32⟩
  | 41 => ⟨S2x32x56x56, .f32⟩
  | 42 => ⟨S1x288, .f32⟩
  | 43 => ⟨S_, .i32⟩
  | 44 => ⟨S_, .f32⟩
  | 45 => ⟨S2x32x58x58, .f32⟩
  | 46 => ⟨S2x32x56x58, .f32⟩
  | 47 => ⟨S2x32x56x58, .f32⟩
  | 48 => ⟨S2x32x56x58, .f32⟩
  | 49 => ⟨S2x32x1x56x58, .f32⟩
  | 50 => ⟨S2x32x1x56x58, .f32⟩
  | 51 => ⟨S2x32x1x56x58, .f32⟩
  | 52 => ⟨S2x32x3x56x58, .f32⟩
  | 53 => ⟨S2x32x3x56x56, .f32⟩
  | 54 => ⟨S2x32x3x56x56, .f32⟩
  | 55 => ⟨S2x32x3x56x56, .f32⟩
  | 56 => ⟨S2x32x3x1x56x56, .f32⟩
  | 57 => ⟨S2x32x3x1x56x56, .f32⟩
  | 58 => ⟨S2x32x3x1x56x56, .f32⟩
  | 59 => ⟨S2x32x3x3x56x56, .f32⟩
  | 60 => ⟨S2x288x56x56, .f32⟩
  | 61 => ⟨S2x56x56x1, .f32⟩
  | 62 => ⟨S2x1x56x56, .f32⟩
  | 63 => ⟨S2x1x56x56, .f32⟩
  | 64 => ⟨S2x1x56x56, .f32⟩
  | 65 => ⟨S_, .f32⟩
  | 66 => ⟨S2x1x56x56, .f32⟩
  | 67 => ⟨S2x1x56x56, .f32⟩
  | 68 => ⟨S_, .f32⟩
  | 69 => ⟨S2x1x56x56, .f32⟩
  | 70 => ⟨S2x1x56x56, .f32⟩
  | 71 => ⟨S_, .f32⟩
  | 72 => ⟨S2x1x56x56, .f32⟩
  | 73 => ⟨S2x1x56x56, .i1⟩
  | 74 => ⟨S96x32, .f32⟩
  | 75 => ⟨S2x56x56x96, .f32⟩
  | 76 => ⟨S2x96x56x56, .f32⟩
  | 77 => ⟨S2x3x4x8x56x56, .f32⟩
  | 78 => ⟨S2x1x4x8x56x56, .f32⟩
  | 79 => ⟨S2x4x8x56x56, .f32⟩
  | 80 => ⟨S2x1x4x8x56x56, .f32⟩
  | 81 => ⟨S2x4x8x56x56, .f32⟩
  | 82 => ⟨S2x1x4x8x56x56, .f32⟩
  | 83 => ⟨S2x4x8x56x56, .f32⟩
  | 84 => ⟨S2x1x56x56, .f32⟩
  | 85 => ⟨S2x32x56x56, .f32⟩
  | 86 => ⟨S2x32x56x56, .f32⟩
  | 87 => ⟨S2x65x56x56, .f32⟩
  | 88 => ⟨S_, .i32⟩
  | 89 => ⟨S_, .f32⟩
  | 90 => ⟨S2x65x66x66, .f32⟩
  | 91 => ⟨S2x65x56x66, .f32⟩
  | 92 => ⟨S2x65x56x66, .f32⟩
  | 93 => ⟨S2x65x56x66, .f32⟩
  | 94 => ⟨S2x65x56x66, .f32⟩
  | 95 => ⟨S2x65x56x66, .f32⟩
  | 96 => ⟨S2x65x56x66, .f32⟩
  | 97 => ⟨S2x65x56x66, .f32⟩
  | 98 => ⟨S2x65x56x66, .f32⟩
  | 99 => ⟨S2x65x56x66, .f32⟩
  | 100 => ⟨S2x65x56x66, .f32⟩
  | 101 => ⟨S2x65x56x66, .f32⟩
  | 102 => ⟨S2x65x1x56x66, .f32⟩
  | 103 => ⟨S2x65x1x56x66, .f32⟩
  | 104 => ⟨S2x65x1x56x66, .f32⟩
  | 105 => ⟨S2x65x1x56x66, .f32⟩
  | 106 => ⟨S2x65x1x56x66, .f32⟩
  | 107 => ⟨S2x65x1x56x66, .f32⟩
  | 108 => ⟨S2x65x1x56x66, .f32⟩
  | 109 => ⟨S2x65x1x56x66, .f32⟩
  | 110 => ⟨S2x65x1x56x66, .f32⟩
  | 111 => ⟨S2x65x1x56x66, .f32⟩
  | 112 => ⟨S2x65x1x56x66, .f32⟩
  | 113 => ⟨S2x65x11x56x66, .f32⟩
  | 114 => ⟨S2x65x11x56x56, .f32⟩
  | 115 => ⟨S2x65x11x56x56, .f32⟩
  | 116 => ⟨S2x65x11x56x56, .f32⟩
  | 117 => ⟨S2x65x11x56x56, .f32⟩
  | 118 => ⟨S2x65x11x56x56, .f32⟩
  | 119 => ⟨S2x65x11x56x56, .f32⟩
  | 120 => ⟨S2x65x11x56x56, .f32⟩
  | 121 => ⟨S2x65x11x56x56, .f32⟩
  | 122 => ⟨S2x65x11x56x56, .f32⟩
  | 123 => ⟨S2x65x11x56x56, .f32⟩
  | 124 => ⟨S2x65x11x56x56, .f32⟩
  | 125 => ⟨S2x65x11x1x56x56, .f32⟩
  | 126 => ⟨S2x65x11x1x56x56, .f32⟩
  | 127 => ⟨S2x65x11x1x56x56, .f32⟩
  | _ => ⟨S2x32x56x56, .f32⟩

abbrev hbmTy0_2 (i : Nat) : BufTy := match i % 128 with
  | 0 => ⟨S2x65x11x1x56x56, .f32⟩
  | 1 => ⟨S2x65x11x1x56x56, .f32⟩
  | 2 => ⟨S2x65x11x1x56x56, .f32⟩
  | 3 => ⟨S2x65x11x1x56x56, .f32⟩
  | 4 => ⟨S2x65x11x1x56x56, .f32⟩
  | 5 => ⟨S2x65x11x1x56x56, .f32⟩
  | 6 => ⟨S2x65x11x1x56x56, .f32⟩
  | 7 => ⟨S2x65x11x1x56x56, .f32⟩
  | 8 => ⟨S2x65x11x11x56x56, .f32⟩
  | 9 => ⟨S2x65x121x56x56, .f32⟩
  | 10 => ⟨S2x1x121x56x56, .f32⟩
  | 11 => ⟨S2x1x1x121x3136, .f32⟩
  | 12 => ⟨S2x32x121x56x56, .f32⟩
  | 13 => ⟨S2x4x8x121x3136, .f32⟩
  | 14 => ⟨S2x4x8x121x3136, .f32⟩
  | 15 => ⟨S2x4x8x121x3136, .f32⟩
  | 16 => ⟨S2x32x121x56x56, .f32⟩
  | 17 => ⟨S2x4x8x121x3136, .f32⟩
  | 18 => ⟨S2x4x8x121x3136, .f32⟩
  | 19 => ⟨S2x4x8x121x3136, .f32⟩
  | 20 => ⟨S2x4x8x3136, .f32⟩
  | 21 => ⟨S2x4x8x1x3136, .f32⟩
  | 22 => ⟨S2x4x8x121x3136, .f32⟩
  | 23 => ⟨S2x4x8x121x3136, .f32⟩
  | 24 => ⟨S_, .f32⟩
  | 25 => ⟨S2x4x121x3136, .f32⟩
  | 26 => ⟨S_, .f32⟩
  | 27 => ⟨S2x4x121x3136, .f32⟩
  | 28 => ⟨S2x4x121x3136, .f32⟩
  | 29 => ⟨S1x4x121x1, .f32⟩
  | 30 => ⟨S2x4x121x3136, .f32⟩
  | 31 => ⟨S2x4x121x3136, .f32⟩
  | 32 => ⟨S_, .f32⟩
  | 33 => ⟨S2x4x3136, .f32⟩
  | 34 => ⟨S_, .f32⟩
  | 35 => ⟨S2x4x3136, .f32⟩
  | 36 => ⟨S2x4x3136, .f32⟩
  | 37 => ⟨S2x4x1x3136, .f32⟩
  | 38 => ⟨S2x4x121x3136, .f32⟩
  | 39 => ⟨S2x4x121x3136, .f32⟩
  | 40 => ⟨S2x4x121x3136, .f32⟩
  | 41 => ⟨S_, .f32⟩
  | 42 => ⟨S2x4x3136, .f32⟩
  | 43 => ⟨S2x4x1x3136, .f32⟩
  | 44 => ⟨S2x4x121x3136, .f32⟩
  | 45 => ⟨S2x4x121x3136, .f32⟩
  | 46 => ⟨S2x4x1x121x3136, .f32⟩
  | 47 => ⟨S2x4x8x121x3136, .f32⟩
  | 48 => ⟨S2x4x8x121x3136, .f32⟩
  | 49 => ⟨S_, .f32⟩
  | 50 => ⟨S2x4x8x3136, .f32⟩
  | 51 => ⟨S2x3136, .f32⟩
  | 52 => ⟨S_, .f32⟩
  | 53 => ⟨S2x3136, .f32⟩
  | 54 => ⟨S2x3136, .i1⟩
  | 55 => ⟨S2x3136, .f32⟩
  | 56 => ⟨S2x32x3136, .f32⟩
  | 57 => ⟨S2x1x3136, .f32⟩
  | 58 => ⟨S2x32x3136, .f32⟩
  | 59 => ⟨S2x32x3136, .f32⟩
  | 60 => ⟨S2x32x56x56, .f32⟩
  | 61 => ⟨S32x32, .f32⟩
  | 62 => ⟨S2x56x56x32, .f32⟩
  | 63 => ⟨S2x32x56x56, .f32⟩
  | 64 => ⟨S1x32x1x1, .f32⟩
  | 65 => ⟨S2x32x56x56, .f32⟩
  | 66 => ⟨S2x32x56x56, .f32⟩
  | 67 => ⟨S2x1x56x56, .f32⟩
  | 68 => ⟨S2x32x56x56, .f32⟩
  | 69 => ⟨S2x32x56x56, .f32⟩
  | 70 => ⟨S2x32x56x56, .f32⟩
  | 71 => ⟨S_, .f32⟩
  | 72 => ⟨S2x1x56x56, .f32⟩
  | 73 => ⟨S2x1x56x56, .i1⟩
  | 74 => ⟨S96x32, .f32⟩
  | 75 => ⟨S2x56x56x96, .f32⟩
  | 76 => ⟨S2x96x56x56, .f32⟩
  | 77 => ⟨S2x3x4x8x56x56, .f32⟩
  | 78 => ⟨S2x1x4x8x56x56, .f32⟩
  | 79 => ⟨S2x4x8x56x56, .f32⟩
  | 80 => ⟨S2x1x4x8x56x56, .f32⟩
  | 81 => ⟨S2x4x8x56x56, .f32⟩
  | 82 => ⟨S2x1x4x8x56x56, .f32⟩
  | 83 => ⟨S2x4x8x56x56, .f32⟩
  | 84 => ⟨S2x1x56x56, .f32⟩
  | 85 => ⟨S2x32x56x56, .f32⟩
  | 86 => ⟨S2x32x56x56, .f32⟩
  | 87 => ⟨S2x65x56x56, .f32⟩
  | 88 => ⟨S_, .i32⟩
  | 89 => ⟨S_, .f32⟩
  | 90 => ⟨S2x65x66x66, .f32⟩
  | 91 => ⟨S2x65x56x66, .f32⟩
  | 92 => ⟨S2x65x56x66, .f32⟩
  | 93 => ⟨S2x65x56x66, .f32⟩
  | 94 => ⟨S2x65x56x66, .f32⟩
  | 95 => ⟨S2x65x56x66, .f32⟩
  | 96 => ⟨S2x65x56x66, .f32⟩
  | 97 => ⟨S2x65x56x66, .f32⟩
  | 98 => ⟨S2x65x56x66, .f32⟩
  | 99 => ⟨S2x65x56x66, .f32⟩
  | 100 => ⟨S2x65x56x66, .f32⟩
  | 101 => ⟨S2x65x56x66, .f32⟩
  | 102 => ⟨S2x65x1x56x66, .f32⟩
  | 103 => ⟨S2x65x1x56x66, .f32⟩
  | 104 => ⟨S2x65x1x56x66, .f32⟩
  | 105 => ⟨S2x65x1x56x66, .f32⟩
  | 106 => ⟨S2x65x1x56x66, .f32⟩
  | 107 => ⟨S2x65x1x56x66, .f32⟩
  | 108 => ⟨S2x65x1x56x66, .f32⟩
  | 109 => ⟨S2x65x1x56x66, .f32⟩
  | 110 => ⟨S2x65x1x56x66, .f32⟩
  | 111 => ⟨S2x65x1x56x66, .f32⟩
  | 112 => ⟨S2x65x1x56x66, .f32⟩
  | 113 => ⟨S2x65x11x56x66, .f32⟩
  | 114 => ⟨S2x65x11x56x56, .f32⟩
  | 115 => ⟨S2x65x11x56x56, .f32⟩
  | 116 => ⟨S2x65x11x56x56, .f32⟩
  | 117 => ⟨S2x65x11x56x56, .f32⟩
  | 118 => ⟨S2x65x11x56x56, .f32⟩
  | 119 => ⟨S2x65x11x56x56, .f32⟩
  | 120 => ⟨S2x65x11x56x56, .f32⟩
  | 121 => ⟨S2x65x11x56x56, .f32⟩
  | 122 => ⟨S2x65x11x56x56, .f32⟩
  | 123 => ⟨S2x65x11x56x56, .f32⟩
  | 124 => ⟨S2x65x11x56x56, .f32⟩
  | 125 => ⟨S2x65x11x1x56x56, .f32⟩
  | 126 => ⟨S2x65x11x1x56x56, .f32⟩
  | 127 => ⟨S2x65x11x1x56x56, .f32⟩
  | _ => ⟨S2x32x56x56, .f32⟩

abbrev hbmTy0_3 (i : Nat) : BufTy := match i % 128 with
  | 0 => ⟨S2x65x11x1x56x56, .f32⟩
  | 1 => ⟨S2x65x11x1x56x56, .f32⟩
  | 2 => ⟨S2x65x11x1x56x56, .f32⟩
  | 3 => ⟨S2x65x11x1x56x56, .f32⟩
  | 4 => ⟨S2x65x11x1x56x56, .f32⟩
  | 5 => ⟨S2x65x11x1x56x56, .f32⟩
  | 6 => ⟨S2x65x11x1x56x56, .f32⟩
  | 7 => ⟨S2x65x11x1x56x56, .f32⟩
  | 8 => ⟨S2x65x11x11x56x56, .f32⟩
  | 9 => ⟨S2x65x121x56x56, .f32⟩
  | 10 => ⟨S2x1x121x56x56, .f32⟩
  | 11 => ⟨S2x1x1x121x3136, .f32⟩
  | 12 => ⟨S2x32x121x56x56, .f32⟩
  | 13 => ⟨S2x4x8x121x3136, .f32⟩
  | 14 => ⟨S2x4x8x121x3136, .f32⟩
  | 15 => ⟨S2x4x8x121x3136, .f32⟩
  | 16 => ⟨S2x32x121x56x56, .f32⟩
  | 17 => ⟨S2x4x8x121x3136, .f32⟩
  | 18 => ⟨S2x4x8x121x3136, .f32⟩
  | 19 => ⟨S2x4x8x121x3136, .f32⟩
  | 20 => ⟨S2x4x8x3136, .f32⟩
  | 21 => ⟨S2x4x8x1x3136, .f32⟩
  | 22 => ⟨S2x4x8x121x3136, .f32⟩
  | 23 => ⟨S2x4x8x121x3136, .f32⟩
  | 24 => ⟨S_, .f32⟩
  | 25 => ⟨S2x4x121x3136, .f32⟩
  | 26 => ⟨S_, .f32⟩
  | 27 => ⟨S2x4x121x3136, .f32⟩
  | 28 => ⟨S2x4x121x3136, .f32⟩
  | 29 => ⟨S1x4x121x1, .f32⟩
  | 30 => ⟨S2x4x121x3136, .f32⟩
  | 31 => ⟨S2x4x121x3136, .f32⟩
  | 32 => ⟨S_, .f32⟩
  | 33 => ⟨S2x4x3136, .f32⟩
  | 34 => ⟨S_, .f32⟩
  | 35 => ⟨S2x4x3136, .f32⟩
  | 36 => ⟨S2x4x3136, .f32⟩
  | 37 => ⟨S2x4x1x3136, .f32⟩
  | 38 => ⟨S2x4x121x3136, .f32⟩
  | 39 => ⟨S2x4x121x3136, .f32⟩
  | 40 => ⟨S2x4x121x3136, .f32⟩
  | 41 => ⟨S_, .f32⟩
  | 42 => ⟨S2x4x3136, .f32⟩
  | 43 => ⟨S2x4x1x3136, .f32⟩
  | 44 => ⟨S2x4x121x3136, .f32⟩
  | 45 => ⟨S2x4x121x3136, .f32⟩
  | 46 => ⟨S2x4x1x121x3136, .f32⟩
  | 47 => ⟨S2x4x8x121x3136, .f32⟩
  | 48 => ⟨S2x4x8x121x3136, .f32⟩
  | 49 => ⟨S_, .f32⟩
  | 50 => ⟨S2x4x8x3136, .f32⟩
  | 51 => ⟨S2x3136, .f32⟩
  | 52 => ⟨S_, .f32⟩
  | 53 => ⟨S2x3136, .f32⟩
  | 54 => ⟨S2x3136, .i1⟩
  | 55 => ⟨S2x3136, .f32⟩
  | 56 => ⟨S2x32x3136, .f32⟩
  | 57 => ⟨S2x1x3136, .f32⟩
  | 58 => ⟨S2x32x3136, .f32⟩
  | 59 => ⟨S2x32x3136, .f32⟩
  | 60 => ⟨S2x32x56x56, .f32⟩
  | 61 => ⟨S32x32, .f32⟩
  | 62 => ⟨S2x56x56x32, .f32⟩
  | 63 => ⟨S2x32x56x56, .f32⟩
  | 64 => ⟨S1x32x1x1, .f32⟩
  | 65 => ⟨S2x32x56x56, .f32⟩
  | 66 => ⟨S2x32x56x56, .f32⟩
  | 67 => ⟨S2x1x56x56, .f32⟩
  | 68 => ⟨S2x32x56x56, .f32⟩
  | 69 => ⟨S2x32x56x56, .f32⟩
  | 70 => ⟨S2x32x56x56, .f32⟩
  | _ => ⟨S2x32x56x56, .f32⟩

abbrev hbmTy (i : Nat) : BufTy := match i / 128 with
  | 0 => hbmTy0_0 i
  | 1 => hbmTy0_1 i
  | 2 => hbmTy0_2 i
  | 3 => hbmTy0_3 i
  | _ => ⟨S2x32x56x56, .f32⟩

abbrev bufTy : (tb : Table) → Fin (tcTables nBuf tb) → BufTy
  | .hbm, ⟨i, _⟩ => hbmTy i
  | _, _ => ⟨S2x32x56x56, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_c : Ref sig .tc := ⟨.hbm, 14, rfl⟩
abbrev main_call0_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_call1_cst : Ref sig .tc := ⟨.hbm, 50, rfl⟩
abbrev main_call1_v0 : Ref sig .tc := ⟨.hbm, 51, rfl⟩
abbrev main_v34 : Ref sig .tc := ⟨.hbm, 52, rfl⟩
abbrev main_v35 : Ref sig .tc := ⟨.hbm, 53, rfl⟩
abbrev main_c_0 : Ref sig .tc := ⟨.hbm, 54, rfl⟩
abbrev main_call2_v0 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_call3_cst : Ref sig .tc := ⟨.hbm, 74, rfl⟩
abbrev main_call3_v0 : Ref sig .tc := ⟨.hbm, 75, rfl⟩
abbrev main_v54 : Ref sig .tc := ⟨.hbm, 76, rfl⟩
abbrev main_v55 : Ref sig .tc := ⟨.hbm, 77, rfl⟩
abbrev main_c_1 : Ref sig .tc := ⟨.hbm, 78, rfl⟩
abbrev main_call4_v0 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_cst_2 : Ref sig .tc := ⟨.hbm, 100, rfl⟩
abbrev main_v76 : Ref sig .tc := ⟨.hbm, 101, rfl⟩
abbrev main_v77 : Ref sig .tc := ⟨.hbm, 102, rfl⟩
abbrev main_cst_3 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_c_4 : Ref sig .tc := ⟨.hbm, 107, rfl⟩
abbrev main_call5_v0 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩
abbrev main_cst_5 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩
abbrev main_v109 : Ref sig .tc := ⟨.hbm, 138, rfl⟩
abbrev main_v110 : Ref sig .tc := ⟨.hbm, 139, rfl⟩
abbrev main_v111 : Ref sig .tc := ⟨.hbm, 140, rfl⟩
abbrev main_v112 : Ref sig .tc := ⟨.hbm, 141, rfl⟩
abbrev main_v113 : Ref sig .tc := ⟨.hbm, 142, rfl⟩
abbrev main_call6_cst : Ref sig .tc := ⟨.hbm, 143, rfl⟩
abbrev main_call6_v0 : Ref sig .tc := ⟨.hbm, 144, rfl⟩
abbrev main_v114 : Ref sig .tc := ⟨.hbm, 145, rfl⟩
abbrev main_v115 : Ref sig .tc := ⟨.hbm, 146, rfl⟩
abbrev main_c_6 : Ref sig .tc := ⟨.hbm, 147, rfl⟩
abbrev main_call7_v0 : Ref sig .tc := ⟨.hbm, 148, rfl⟩
abbrev main_v116 : Ref sig .tc := ⟨.hbm, 149, rfl⟩
abbrev main_v117 : Ref sig .tc := ⟨.hbm, 150, rfl⟩
abbrev main_v118 : Ref sig .tc := ⟨.hbm, 151, rfl⟩
abbrev main_v119 : Ref sig .tc := ⟨.hbm, 152, rfl⟩
abbrev main_v120 : Ref sig .tc := ⟨.hbm, 153, rfl⟩
abbrev main_v121 : Ref sig .tc := ⟨.hbm, 154, rfl⟩
abbrev main_v122 : Ref sig .tc := ⟨.hbm, 155, rfl⟩
abbrev main_v123 : Ref sig .tc := ⟨.hbm, 156, rfl⟩
abbrev main_v124 : Ref sig .tc := ⟨.hbm, 157, rfl⟩
abbrev main_v125 : Ref sig .tc := ⟨.hbm, 158, rfl⟩
abbrev main_v126 : Ref sig .tc := ⟨.hbm, 159, rfl⟩
abbrev main_v127 : Ref sig .tc := ⟨.hbm, 160, rfl⟩
abbrev main_v128 : Ref sig .tc := ⟨.hbm, 161, rfl⟩
abbrev main_v129 : Ref sig .tc := ⟨.hbm, 162, rfl⟩
abbrev main_v130 : Ref sig .tc := ⟨.hbm, 163, rfl⟩
abbrev main_v131 : Ref sig .tc := ⟨.hbm, 164, rfl⟩
abbrev main_v132 : Ref sig .tc := ⟨.hbm, 165, rfl⟩
abbrev main_v133 : Ref sig .tc := ⟨.hbm, 166, rfl⟩
abbrev main_call8_cst : Ref sig .tc := ⟨.hbm, 167, rfl⟩
abbrev main_call8_v0 : Ref sig .tc := ⟨.hbm, 168, rfl⟩
abbrev main_v134 : Ref sig .tc := ⟨.hbm, 169, rfl⟩
abbrev main_v135 : Ref sig .tc := ⟨.hbm, 170, rfl⟩
abbrev main_c_7 : Ref sig .tc := ⟨.hbm, 171, rfl⟩
abbrev main_call9_v0 : Ref sig .tc := ⟨.hbm, 172, rfl⟩
abbrev main_v136 : Ref sig .tc := ⟨.hbm, 173, rfl⟩
abbrev main_v137 : Ref sig .tc := ⟨.hbm, 174, rfl⟩
abbrev main_v138 : Ref sig .tc := ⟨.hbm, 175, rfl⟩
abbrev main_v139 : Ref sig .tc := ⟨.hbm, 176, rfl⟩
abbrev main_v140 : Ref sig .tc := ⟨.hbm, 177, rfl⟩
abbrev main_v141 : Ref sig .tc := ⟨.hbm, 178, rfl⟩
abbrev main_v142 : Ref sig .tc := ⟨.hbm, 179, rfl⟩
abbrev main_v143 : Ref sig .tc := ⟨.hbm, 180, rfl⟩
abbrev main_v144 : Ref sig .tc := ⟨.hbm, 181, rfl⟩
abbrev main_v145 : Ref sig .tc := ⟨.hbm, 182, rfl⟩
abbrev main_v146 : Ref sig .tc := ⟨.hbm, 183, rfl⟩
abbrev main_v147 : Ref sig .tc := ⟨.hbm, 184, rfl⟩
abbrev main_v148 : Ref sig .tc := ⟨.hbm, 185, rfl⟩
abbrev main_v149 : Ref sig .tc := ⟨.hbm, 186, rfl⟩
abbrev main_v150 : Ref sig .tc := ⟨.hbm, 187, rfl⟩
abbrev main_v151 : Ref sig .tc := ⟨.hbm, 188, rfl⟩
abbrev main_v152 : Ref sig .tc := ⟨.hbm, 189, rfl⟩
abbrev main_v153 : Ref sig .tc := ⟨.hbm, 190, rfl⟩
abbrev main_v154 : Ref sig .tc := ⟨.hbm, 191, rfl⟩
abbrev main_v155 : Ref sig .tc := ⟨.hbm, 192, rfl⟩
abbrev main_cst_8 : Ref sig .tc := ⟨.hbm, 193, rfl⟩
abbrev main_v156 : Ref sig .tc := ⟨.hbm, 194, rfl⟩
abbrev main_v157 : Ref sig .tc := ⟨.hbm, 195, rfl⟩
abbrev main_cst_9 : Ref sig .tc := ⟨.hbm, 196, rfl⟩
abbrev main_v158 : Ref sig .tc := ⟨.hbm, 197, rfl⟩
abbrev main_v159 : Ref sig .tc := ⟨.hbm, 198, rfl⟩
abbrev main_cst_10 : Ref sig .tc := ⟨.hbm, 199, rfl⟩
abbrev main_v160 : Ref sig .tc := ⟨.hbm, 200, rfl⟩
abbrev main_v161 : Ref sig .tc := ⟨.hbm, 201, rfl⟩
abbrev main_v162 : Ref sig .tc := ⟨.hbm, 202, rfl⟩
abbrev main_v163 : Ref sig .tc := ⟨.hbm, 203, rfl⟩
abbrev main_v164 : Ref sig .tc := ⟨.hbm, 204, rfl⟩
abbrev main_v165 : Ref sig .tc := ⟨.hbm, 205, rfl⟩
abbrev main_v166 : Ref sig .tc := ⟨.hbm, 206, rfl⟩
abbrev main_v167 : Ref sig .tc := ⟨.hbm, 207, rfl⟩
abbrev main_v168 : Ref sig .tc := ⟨.hbm, 208, rfl⟩
abbrev main_v169 : Ref sig .tc := ⟨.hbm, 209, rfl⟩
abbrev main_v170 : Ref sig .tc := ⟨.hbm, 210, rfl⟩
abbrev main_v171 : Ref sig .tc := ⟨.hbm, 211, rfl⟩
abbrev main_v172 : Ref sig .tc := ⟨.hbm, 212, rfl⟩
abbrev main_v173 : Ref sig .tc := ⟨.hbm, 213, rfl⟩
abbrev main_v174 : Ref sig .tc := ⟨.hbm, 214, rfl⟩
abbrev main_v175 : Ref sig .tc := ⟨.hbm, 215, rfl⟩
abbrev main_c_11 : Ref sig .tc := ⟨.hbm, 216, rfl⟩
abbrev main_call10_v0 : Ref sig .tc := ⟨.hbm, 217, rfl⟩
abbrev main_v176 : Ref sig .tc := ⟨.hbm, 218, rfl⟩
abbrev main_v177 : Ref sig .tc := ⟨.hbm, 219, rfl⟩
abbrev main_v178 : Ref sig .tc := ⟨.hbm, 220, rfl⟩
abbrev main_v179 : Ref sig .tc := ⟨.hbm, 221, rfl⟩
abbrev main_v180 : Ref sig .tc := ⟨.hbm, 222, rfl⟩
abbrev main_v181 : Ref sig .tc := ⟨.hbm, 223, rfl⟩
abbrev main_v182 : Ref sig .tc := ⟨.hbm, 224, rfl⟩
abbrev main_v183 : Ref sig .tc := ⟨.hbm, 225, rfl⟩
abbrev main_v184 : Ref sig .tc := ⟨.hbm, 226, rfl⟩
abbrev main_v185 : Ref sig .tc := ⟨.hbm, 227, rfl⟩
abbrev main_v186 : Ref sig .tc := ⟨.hbm, 228, rfl⟩
abbrev main_v187 : Ref sig .tc := ⟨.hbm, 229, rfl⟩
abbrev main_v188 : Ref sig .tc := ⟨.hbm, 230, rfl⟩
abbrev main_v189 : Ref sig .tc := ⟨.hbm, 231, rfl⟩
abbrev main_v190 : Ref sig .tc := ⟨.hbm, 232, rfl⟩
abbrev main_v191 : Ref sig .tc := ⟨.hbm, 233, rfl⟩
abbrev main_v192 : Ref sig .tc := ⟨.hbm, 234, rfl⟩
abbrev main_v193 : Ref sig .tc := ⟨.hbm, 235, rfl⟩
abbrev main_v194 : Ref sig .tc := ⟨.hbm, 236, rfl⟩
abbrev main_v195 : Ref sig .tc := ⟨.hbm, 237, rfl⟩
abbrev main_v196 : Ref sig .tc := ⟨.hbm, 238, rfl⟩
abbrev main_v197 : Ref sig .tc := ⟨.hbm, 239, rfl⟩
abbrev main_v198 : Ref sig .tc := ⟨.hbm, 240, rfl⟩
abbrev main_v199 : Ref sig .tc := ⟨.hbm, 241, rfl⟩
abbrev main_v200 : Ref sig .tc := ⟨.hbm, 242, rfl⟩
abbrev main_v201 : Ref sig .tc := ⟨.hbm, 243, rfl⟩
abbrev main_v202 : Ref sig .tc := ⟨.hbm, 244, rfl⟩
abbrev main_v203 : Ref sig .tc := ⟨.hbm, 245, rfl⟩
abbrev main_v204 : Ref sig .tc := ⟨.hbm, 246, rfl⟩
abbrev main_v205 : Ref sig .tc := ⟨.hbm, 247, rfl⟩
abbrev main_v206 : Ref sig .tc := ⟨.hbm, 248, rfl⟩
abbrev main_v207 : Ref sig .tc := ⟨.hbm, 249, rfl⟩
abbrev main_v208 : Ref sig .tc := ⟨.hbm, 250, rfl⟩
abbrev main_v209 : Ref sig .tc := ⟨.hbm, 251, rfl⟩
abbrev main_v210 : Ref sig .tc := ⟨.hbm, 252, rfl⟩
abbrev main_v211 : Ref sig .tc := ⟨.hbm, 253, rfl⟩
abbrev main_v212 : Ref sig .tc := ⟨.hbm, 254, rfl⟩
abbrev main_v213 : Ref sig .tc := ⟨.hbm, 255, rfl⟩
abbrev main_v214 : Ref sig .tc := ⟨.hbm, 256, rfl⟩
abbrev main_v215 : Ref sig .tc := ⟨.hbm, 257, rfl⟩
abbrev main_v216 : Ref sig .tc := ⟨.hbm, 258, rfl⟩
abbrev main_v217 : Ref sig .tc := ⟨.hbm, 259, rfl⟩
abbrev main_v218 : Ref sig .tc := ⟨.hbm, 260, rfl⟩
abbrev main_v219 : Ref sig .tc := ⟨.hbm, 261, rfl⟩
abbrev main_v220 : Ref sig .tc := ⟨.hbm, 262, rfl⟩
abbrev main_v221 : Ref sig .tc := ⟨.hbm, 263, rfl⟩
abbrev main_v222 : Ref sig .tc := ⟨.hbm, 264, rfl⟩
abbrev main_v223 : Ref sig .tc := ⟨.hbm, 265, rfl⟩
abbrev main_v224 : Ref sig .tc := ⟨.hbm, 266, rfl⟩
abbrev main_v225 : Ref sig .tc := ⟨.hbm, 267, rfl⟩
abbrev main_v226 : Ref sig .tc := ⟨.hbm, 268, rfl⟩
abbrev main_v227 : Ref sig .tc := ⟨.hbm, 269, rfl⟩
abbrev main_v228 : Ref sig .tc := ⟨.hbm, 270, rfl⟩
abbrev main_v229 : Ref sig .tc := ⟨.hbm, 271, rfl⟩
abbrev main_v230 : Ref sig .tc := ⟨.hbm, 272, rfl⟩
abbrev main_v231 : Ref sig .tc := ⟨.hbm, 273, rfl⟩
abbrev main_v232 : Ref sig .tc := ⟨.hbm, 274, rfl⟩
abbrev main_v233 : Ref sig .tc := ⟨.hbm, 275, rfl⟩
abbrev main_v234 : Ref sig .tc := ⟨.hbm, 276, rfl⟩
abbrev main_v235 : Ref sig .tc := ⟨.hbm, 277, rfl⟩
abbrev main_v236 : Ref sig .tc := ⟨.hbm, 278, rfl⟩
abbrev main_v237 : Ref sig .tc := ⟨.hbm, 279, rfl⟩
abbrev main_cst_12 : Ref sig .tc := ⟨.hbm, 280, rfl⟩
abbrev main_v238 : Ref sig .tc := ⟨.hbm, 281, rfl⟩
abbrev main_cst_13 : Ref sig .tc := ⟨.hbm, 282, rfl⟩
abbrev main_v239 : Ref sig .tc := ⟨.hbm, 283, rfl⟩
abbrev main_v240 : Ref sig .tc := ⟨.hbm, 284, rfl⟩
abbrev main_v241 : Ref sig .tc := ⟨.hbm, 285, rfl⟩
abbrev main_v242 : Ref sig .tc := ⟨.hbm, 286, rfl⟩
abbrev main_v243 : Ref sig .tc := ⟨.hbm, 287, rfl⟩
abbrev main_cst_14 : Ref sig .tc := ⟨.hbm, 288, rfl⟩
abbrev main_v244 : Ref sig .tc := ⟨.hbm, 289, rfl⟩
abbrev main_cst_15 : Ref sig .tc := ⟨.hbm, 290, rfl⟩
abbrev main_v245 : Ref sig .tc := ⟨.hbm, 291, rfl⟩
abbrev main_v246 : Ref sig .tc := ⟨.hbm, 292, rfl⟩
abbrev main_v247 : Ref sig .tc := ⟨.hbm, 293, rfl⟩
abbrev main_v248 : Ref sig .tc := ⟨.hbm, 294, rfl⟩
abbrev main_v249 : Ref sig .tc := ⟨.hbm, 295, rfl⟩
abbrev main_v250 : Ref sig .tc := ⟨.hbm, 296, rfl⟩
abbrev main_cst_16 : Ref sig .tc := ⟨.hbm, 297, rfl⟩
abbrev main_v251 : Ref sig .tc := ⟨.hbm, 298, rfl⟩
abbrev main_v252 : Ref sig .tc := ⟨.hbm, 299, rfl⟩
abbrev main_v253 : Ref sig .tc := ⟨.hbm, 300, rfl⟩
abbrev main_v254 : Ref sig .tc := ⟨.hbm, 301, rfl⟩
abbrev main_v255 : Ref sig .tc := ⟨.hbm, 302, rfl⟩
abbrev main_v256 : Ref sig .tc := ⟨.hbm, 303, rfl⟩
abbrev main_v257 : Ref sig .tc := ⟨.hbm, 304, rfl⟩
abbrev main_cst_17 : Ref sig .tc := ⟨.hbm, 305, rfl⟩
abbrev main_v258 : Ref sig .tc := ⟨.hbm, 306, rfl⟩
abbrev main_v259 : Ref sig .tc := ⟨.hbm, 307, rfl⟩
abbrev main_cst_18 : Ref sig .tc := ⟨.hbm, 308, rfl⟩
abbrev main_v260 : Ref sig .tc := ⟨.hbm, 309, rfl⟩
abbrev main_v261 : Ref sig .tc := ⟨.hbm, 310, rfl⟩
abbrev main_v262 : Ref sig .tc := ⟨.hbm, 311, rfl⟩
abbrev main_v263 : Ref sig .tc := ⟨.hbm, 312, rfl⟩
abbrev main_v264 : Ref sig .tc := ⟨.hbm, 313, rfl⟩
abbrev main_v265 : Ref sig .tc := ⟨.hbm, 314, rfl⟩
abbrev main_v266 : Ref sig .tc := ⟨.hbm, 315, rfl⟩
abbrev main_v267 : Ref sig .tc := ⟨.hbm, 316, rfl⟩
abbrev main_v268 : Ref sig .tc := ⟨.hbm, 317, rfl⟩
abbrev main_v269 : Ref sig .tc := ⟨.hbm, 318, rfl⟩
abbrev main_v270 : Ref sig .tc := ⟨.hbm, 319, rfl⟩
abbrev main_v271 : Ref sig .tc := ⟨.hbm, 320, rfl⟩
abbrev main_v272 : Ref sig .tc := ⟨.hbm, 321, rfl⟩
abbrev main_v273 : Ref sig .tc := ⟨.hbm, 322, rfl⟩
abbrev main_v274 : Ref sig .tc := ⟨.hbm, 323, rfl⟩
abbrev main_v275 : Ref sig .tc := ⟨.hbm, 324, rfl⟩
abbrev main_v276 : Ref sig .tc := ⟨.hbm, 325, rfl⟩
abbrev main_v277 : Ref sig .tc := ⟨.hbm, 326, rfl⟩
abbrev main_cst_19 : Ref sig .tc := ⟨.hbm, 327, rfl⟩
abbrev main_v278 : Ref sig .tc := ⟨.hbm, 328, rfl⟩
abbrev main_v279 : Ref sig .tc := ⟨.hbm, 329, rfl⟩
abbrev main_v280 : Ref sig .tc := ⟨.hbm, 330, rfl⟩
abbrev main_v281 : Ref sig .tc := ⟨.hbm, 331, rfl⟩
abbrev main_v282 : Ref sig .tc := ⟨.hbm, 332, rfl⟩
abbrev main_v283 : Ref sig .tc := ⟨.hbm, 333, rfl⟩
abbrev main_v284 : Ref sig .tc := ⟨.hbm, 334, rfl⟩
abbrev main_v285 : Ref sig .tc := ⟨.hbm, 335, rfl⟩
abbrev main_v286 : Ref sig .tc := ⟨.hbm, 336, rfl⟩
abbrev main_v287 : Ref sig .tc := ⟨.hbm, 337, rfl⟩
abbrev main_v288 : Ref sig .tc := ⟨.hbm, 338, rfl⟩
abbrev main_v289 : Ref sig .tc := ⟨.hbm, 339, rfl⟩
abbrev main_v290 : Ref sig .tc := ⟨.hbm, 340, rfl⟩
abbrev main_v291 : Ref sig .tc := ⟨.hbm, 341, rfl⟩
abbrev main_v292 : Ref sig .tc := ⟨.hbm, 342, rfl⟩
abbrev main_v293 : Ref sig .tc := ⟨.hbm, 343, rfl⟩
abbrev main_c_20 : Ref sig .tc := ⟨.hbm, 344, rfl⟩
abbrev main_call11_v0 : Ref sig .tc := ⟨.hbm, 345, rfl⟩
abbrev main_v294 : Ref sig .tc := ⟨.hbm, 346, rfl⟩
abbrev main_v295 : Ref sig .tc := ⟨.hbm, 347, rfl⟩
abbrev main_v296 : Ref sig .tc := ⟨.hbm, 348, rfl⟩
abbrev main_v297 : Ref sig .tc := ⟨.hbm, 349, rfl⟩
abbrev main_v298 : Ref sig .tc := ⟨.hbm, 350, rfl⟩
abbrev main_v299 : Ref sig .tc := ⟨.hbm, 351, rfl⟩
abbrev main_v300 : Ref sig .tc := ⟨.hbm, 352, rfl⟩
abbrev main_v301 : Ref sig .tc := ⟨.hbm, 353, rfl⟩
abbrev main_v302 : Ref sig .tc := ⟨.hbm, 354, rfl⟩
abbrev main_v303 : Ref sig .tc := ⟨.hbm, 355, rfl⟩
abbrev main_v304 : Ref sig .tc := ⟨.hbm, 356, rfl⟩
abbrev main_v305 : Ref sig .tc := ⟨.hbm, 357, rfl⟩
abbrev main_v306 : Ref sig .tc := ⟨.hbm, 358, rfl⟩
abbrev main_v307 : Ref sig .tc := ⟨.hbm, 359, rfl⟩
abbrev main_v308 : Ref sig .tc := ⟨.hbm, 360, rfl⟩
abbrev main_v309 : Ref sig .tc := ⟨.hbm, 361, rfl⟩
abbrev main_v310 : Ref sig .tc := ⟨.hbm, 362, rfl⟩
abbrev main_v311 : Ref sig .tc := ⟨.hbm, 363, rfl⟩
abbrev main_v312 : Ref sig .tc := ⟨.hbm, 364, rfl⟩
abbrev main_v313 : Ref sig .tc := ⟨.hbm, 365, rfl⟩
abbrev main_v314 : Ref sig .tc := ⟨.hbm, 366, rfl⟩
abbrev main_v315 : Ref sig .tc := ⟨.hbm, 367, rfl⟩
abbrev main_v316 : Ref sig .tc := ⟨.hbm, 368, rfl⟩
abbrev main_v317 : Ref sig .tc := ⟨.hbm, 369, rfl⟩
abbrev main_v318 : Ref sig .tc := ⟨.hbm, 370, rfl⟩
abbrev main_v319 : Ref sig .tc := ⟨.hbm, 371, rfl⟩
abbrev main_v320 : Ref sig .tc := ⟨.hbm, 372, rfl⟩
abbrev main_v321 : Ref sig .tc := ⟨.hbm, 373, rfl⟩
abbrev main_v322 : Ref sig .tc := ⟨.hbm, 374, rfl⟩
abbrev main_v323 : Ref sig .tc := ⟨.hbm, 375, rfl⟩
abbrev main_v324 : Ref sig .tc := ⟨.hbm, 376, rfl⟩
abbrev main_v325 : Ref sig .tc := ⟨.hbm, 377, rfl⟩
abbrev main_v326 : Ref sig .tc := ⟨.hbm, 378, rfl⟩
abbrev main_v327 : Ref sig .tc := ⟨.hbm, 379, rfl⟩
abbrev main_v328 : Ref sig .tc := ⟨.hbm, 380, rfl⟩
abbrev main_v329 : Ref sig .tc := ⟨.hbm, 381, rfl⟩
abbrev main_v330 : Ref sig .tc := ⟨.hbm, 382, rfl⟩
abbrev main_v331 : Ref sig .tc := ⟨.hbm, 383, rfl⟩
abbrev main_v332 : Ref sig .tc := ⟨.hbm, 384, rfl⟩
abbrev main_v333 : Ref sig .tc := ⟨.hbm, 385, rfl⟩
abbrev main_v334 : Ref sig .tc := ⟨.hbm, 386, rfl⟩
abbrev main_v335 : Ref sig .tc := ⟨.hbm, 387, rfl⟩
abbrev main_v336 : Ref sig .tc := ⟨.hbm, 388, rfl⟩
abbrev main_v337 : Ref sig .tc := ⟨.hbm, 389, rfl⟩
abbrev main_v338 : Ref sig .tc := ⟨.hbm, 390, rfl⟩
abbrev main_v339 : Ref sig .tc := ⟨.hbm, 391, rfl⟩
abbrev main_v340 : Ref sig .tc := ⟨.hbm, 392, rfl⟩
abbrev main_v341 : Ref sig .tc := ⟨.hbm, 393, rfl⟩
abbrev main_v342 : Ref sig .tc := ⟨.hbm, 394, rfl⟩
abbrev main_v343 : Ref sig .tc := ⟨.hbm, 395, rfl⟩
abbrev main_v344 : Ref sig .tc := ⟨.hbm, 396, rfl⟩
abbrev main_v345 : Ref sig .tc := ⟨.hbm, 397, rfl⟩
abbrev main_v346 : Ref sig .tc := ⟨.hbm, 398, rfl⟩
abbrev main_v347 : Ref sig .tc := ⟨.hbm, 399, rfl⟩
abbrev main_v348 : Ref sig .tc := ⟨.hbm, 400, rfl⟩
abbrev main_v349 : Ref sig .tc := ⟨.hbm, 401, rfl⟩
abbrev main_v350 : Ref sig .tc := ⟨.hbm, 402, rfl⟩
abbrev main_v351 : Ref sig .tc := ⟨.hbm, 403, rfl⟩
abbrev main_v352 : Ref sig .tc := ⟨.hbm, 404, rfl⟩
abbrev main_v353 : Ref sig .tc := ⟨.hbm, 405, rfl⟩
abbrev main_v354 : Ref sig .tc := ⟨.hbm, 406, rfl⟩
abbrev main_v355 : Ref sig .tc := ⟨.hbm, 407, rfl⟩
abbrev main_cst_21 : Ref sig .tc := ⟨.hbm, 408, rfl⟩
abbrev main_v356 : Ref sig .tc := ⟨.hbm, 409, rfl⟩
abbrev main_cst_22 : Ref sig .tc := ⟨.hbm, 410, rfl⟩
abbrev main_v357 : Ref sig .tc := ⟨.hbm, 411, rfl⟩
abbrev main_v358 : Ref sig .tc := ⟨.hbm, 412, rfl⟩
abbrev main_v359 : Ref sig .tc := ⟨.hbm, 413, rfl⟩
abbrev main_v360 : Ref sig .tc := ⟨.hbm, 414, rfl⟩
abbrev main_v361 : Ref sig .tc := ⟨.hbm, 415, rfl⟩
abbrev main_cst_23 : Ref sig .tc := ⟨.hbm, 416, rfl⟩
abbrev main_v362 : Ref sig .tc := ⟨.hbm, 417, rfl⟩
abbrev main_cst_24 : Ref sig .tc := ⟨.hbm, 418, rfl⟩
abbrev main_v363 : Ref sig .tc := ⟨.hbm, 419, rfl⟩
abbrev main_v364 : Ref sig .tc := ⟨.hbm, 420, rfl⟩
abbrev main_v365 : Ref sig .tc := ⟨.hbm, 421, rfl⟩
abbrev main_v366 : Ref sig .tc := ⟨.hbm, 422, rfl⟩
abbrev main_v367 : Ref sig .tc := ⟨.hbm, 423, rfl⟩
abbrev main_v368 : Ref sig .tc := ⟨.hbm, 424, rfl⟩
abbrev main_cst_25 : Ref sig .tc := ⟨.hbm, 425, rfl⟩
abbrev main_v369 : Ref sig .tc := ⟨.hbm, 426, rfl⟩
abbrev main_v370 : Ref sig .tc := ⟨.hbm, 427, rfl⟩
abbrev main_v371 : Ref sig .tc := ⟨.hbm, 428, rfl⟩
abbrev main_v372 : Ref sig .tc := ⟨.hbm, 429, rfl⟩
abbrev main_v373 : Ref sig .tc := ⟨.hbm, 430, rfl⟩
abbrev main_v374 : Ref sig .tc := ⟨.hbm, 431, rfl⟩
abbrev main_v375 : Ref sig .tc := ⟨.hbm, 432, rfl⟩
abbrev main_cst_26 : Ref sig .tc := ⟨.hbm, 433, rfl⟩
abbrev main_v376 : Ref sig .tc := ⟨.hbm, 434, rfl⟩
abbrev main_v377 : Ref sig .tc := ⟨.hbm, 435, rfl⟩
abbrev main_cst_27 : Ref sig .tc := ⟨.hbm, 436, rfl⟩
abbrev main_v378 : Ref sig .tc := ⟨.hbm, 437, rfl⟩
abbrev main_v379 : Ref sig .tc := ⟨.hbm, 438, rfl⟩
abbrev main_v380 : Ref sig .tc := ⟨.hbm, 439, rfl⟩
abbrev main_v381 : Ref sig .tc := ⟨.hbm, 440, rfl⟩
abbrev main_v382 : Ref sig .tc := ⟨.hbm, 441, rfl⟩
abbrev main_v383 : Ref sig .tc := ⟨.hbm, 442, rfl⟩
abbrev main_v384 : Ref sig .tc := ⟨.hbm, 443, rfl⟩
abbrev main_v385 : Ref sig .tc := ⟨.hbm, 444, rfl⟩
abbrev main_v386 : Ref sig .tc := ⟨.hbm, 445, rfl⟩
abbrev main_v387 : Ref sig .tc := ⟨.hbm, 446, rfl⟩
abbrev main_v388 : Ref sig .tc := ⟨.hbm, 447, rfl⟩
abbrev main_v389 : Ref sig .tc := ⟨.hbm, 448, rfl⟩
abbrev main_v390 : Ref sig .tc := ⟨.hbm, 449, rfl⟩
abbrev main_v391 : Ref sig .tc := ⟨.hbm, 450, rfl⟩
abbrev main_v392 : Ref sig .tc := ⟨.hbm, 451, rfl⟩
abbrev main_v393 : Ref sig .tc := ⟨.hbm, 452, rfl⟩
abbrev main_v394 : Ref sig .tc := ⟨.hbm, 453, rfl⟩
abbrev main_v395 : Ref sig .tc := ⟨.hbm, 454, rfl⟩

abbrev nD : Nat := 1
abbrev τ : Topo := Topo.v7x

variable {F : FTy → Type} [FloatOps F]
-- ==== Proof.KLoops.lean ====
/-
  The kernel's two counted loops: what one trip of each does in closed form, and what the first leaves its scratch
  buffer holding once its eleven trips are over.
-/
module

public import proofs.«01_k».proof.Proof.Gen.KernelIdeal.Loops
public import Idealize.ShloMosaic.Lib.Pipeline.FrameBody
public import Idealize.ShloMosaic.Lib.Pointwise

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

variable (𝒱 : Variants) (c : Dev nD) (bd : Option 𝒱.V)
variable (i : grid0.Coords) (arg1 : Memref sig .tc .vmem S1x32x56x56 .f32) (harg1 : arg1.IsWhole) (arg2 : Memref sig .tc .vmem S9x32x32 .f32) (harg2 : arg2.IsWhole) (arg3 : Memref sig .tc .vmem S32x1 .f32) (harg3 : arg3.IsWhole) (arg4 : Memref sig .tc .vmem S32x1 .f32) (harg4 : arg4.IsWhole) (arg5 : Memref sig .tc .vmem S9x32x32 .f32) (harg5 : arg5.IsWhole) (arg6 : Memref sig .tc .vmem S9x1x32 .f32) (harg6 : arg6.IsWhole) (arg7 : Memref sig .tc .vmem S96x32 .f32) (harg7 : arg7.IsWhole) (arg8 : Memref sig .tc .vmem S32x32 .f32) (harg8 : arg8.IsWhole) (arg9 : Memref sig .tc .vmem S32x1 .f32) (harg9 : arg9.IsWhole) (arg10 : Memref sig .tc .vmem S11x4x11 .f32) (harg10 : arg10.IsWhole) (arg11 : Memref sig .tc .vmem S1x32x56x56 .f32) (harg11 : arg11.IsWhole) (arg12 : Memref sig .tc .vmem S1x1x56x56 .f32) (harg12 : arg12.IsWhole) (arg13 : Memref sig .tc .vmem S11x44x3696 .f32) (harg13 : arg13.IsWhole) (arg14 : Memref sig .tc .vmem S11x32x3712 .f32) (harg14 : arg14.IsWhole) (arg15 : Memref sig .tc .vmem S11x32x3712 .f32) (harg15 : arg15.IsWhole) (arg16 : Memref sig .tc .vmem S11x1x3712 .f32) (harg16 : arg16.IsWhole)
variable (v227 : FVec F S32x3696 .f32) (v400 : FVec F S1x3712 .f32)
  (X_arg10 : BufTy.Contents (Elt F) arg10.view.ty) (X_arg14 : BufTy.Contents (Elt F) arg14.view.ty)
  (X_arg16 : BufTy.Contents (Elt F) arg16.view.ty)

variable (v1 : FVec F S32x56x56 .f32) (v217 : FVec F S56x56 .f32) (v440 : FVec F S121x4x3696 .f32) (v443 : FVec F S4x3696 .f32)
  (X_arg13 : BufTy.Contents (Elt F) arg13.view.ty) (X_arg15 : BufTy.Contents (Elt F) arg15.view.ty)

/-! ## The first loop -/

/-- One trip's row of logits: for each of the eleven column shifts four heads, from one shifted row band of the keys `A`
    and of the mask `M` and the row's position biases `P`. -/
def scoreRow (v227 : FVec F S32x3696 .f32) (A : Vec F S1x32x3712 .f32) (M : Vec F S1x1x3712 .f32) (P : Vec F S1x4x11 .f32) :
    FVec F S1x44x3696 .f32 :=
  k0_pay92 (k0_pay4 v227 k0_pay91 A M P) (k0_pay5 v227 k0_pay91 A M P)
    (k0_pay8 (k0_pay6 v227 k0_pay91 A M) (k0_pay7 P)) (k0_pay9 v227 k0_pay91 (k0_pay1 A) (k0_pay2 M) (k0_pay3 P))
    (k0_pay10 v227 k0_pay91 (k0_pay1 A) (k0_pay2 M) (k0_pay3 P))
    (k0_pay11 v227 k0_pay91 (k0_pay1 A) (k0_pay2 M) (k0_pay3 P))
    (k0_pay14 (k0_pay12 v227 k0_pay91 (k0_pay1 A) (k0_pay2 M)) (k0_pay13 (k0_pay3 P)))
    (k0_pay15 v227 k0_pay91 (k0_pay1 A) (k0_pay2 M) (k0_pay3 P))
    (k0_pay16 v227 k0_pay91 (k0_pay1 A) (k0_pay2 M) (k0_pay3 P))
    (k0_pay17 v227 k0_pay91 (k0_pay1 A) (k0_pay2 M) (k0_pay3 P)) (k0_pay18 v227 k0_pay91 (k0_pay1 A) (k0_pay2 M))
    (k0_pay19 (k0_pay3 P))

/-- Row band `r` of a stack of eleven. -/
def band {a b : ℕ} (x : Vec F ⟨3, ![11, a, b]⟩ .f32) (r : Fin 11) : Vec F ⟨3, ![1, a, b]⟩ .f32 :=
  fun y => x (ix3 r (y 1) (y 2))

/-- All the logits: trip `r`'s row at row `r`. -/
def scores (v227 : FVec F S32x3696 .f32) (x14 : Vec F S11x32x3712 .f32) (x16 : Vec F S11x1x3712 .f32) (x10 : Vec F S11x4x11 .f32) :
    Vec F S11x44x3696 .f32 :=
  fun j => scoreRow v227 (band x14 (j 0)) (band x16 (j 0)) (band x10 (j 0)) (ix3 0 (j 1) (j 2))

theorem trips1 : k0_t1_loop.trips = 11 := by decide +kernel
theorem trips2 : k0_t2_loop.trips = 11 := by decide +kernel

/-- What a load of row band `k` reads. -/
theorem readAt_band {a b : ℕ} (arg : Memref sig .tc .vmem ⟨3, ![11, a, b]⟩ .f32) (X : BufTy.Contents (Elt F) arg.view.ty)
    (off : Fin 3 → ℕ) (k : ℕ) (hk : k < 11) (e : off = ![k, 0, 0]) (inb : ∀ d, off d + (![1, a, b] : Fin 3 → ℕ) d ≤ (⟨3, ![11, a, b]⟩ : Shape).size d) :
    arg.view.readAt (Elt F) (Rect.unit (s := ⟨3, ![11, a, b]⟩) off ![1, a, b] inb).toLoadRect X
      = band (arg.view.read (Elt F) X) ⟨k, hk⟩ := by
  subst e
  funext y
  show arg.view.read (Elt F) X _ = arg.view.read (Elt F) X _
  congr 1
  funext d
  refine Fin.ext ?_
  have h0 : (y 0).val = 0 := by have := (y 0).isLt; change (y 0).val < 1 at this; omega
  fin_cases d
  · show k + 1 * (y 0).val = k
    omega
  · show 0 + 1 * (y 1).val = (y 1).val
    omega
  · show 0 + 1 * (y 2).val = (y 2).val
    omega

/-- The one piece trip `k` of the first loop writes. -/
theorem tripL_eq (k : Fin k0_t1_loop.trips) :
    tripL_k0_t1 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v227 v400 X_arg10 X_arg14 X_arg16 k
      = [⟨Rect.unit (s := S11x44x3696) (k0_off4 k) S1x44x3696.size (k0_off4_inb k),
          scoreRow v227 (band (arg14.view.read (Elt F) X_arg14) ⟨k.val, trips1 ▸ k.isLt⟩)
            (band (arg16.view.read (Elt F) X_arg16) ⟨k.val, trips1 ▸ k.isLt⟩) (band (arg10.view.read (Elt F) X_arg10) ⟨k.val, trips1 ▸ k.isLt⟩)⟩] := by
  rw [← readAt_band arg14 X_arg14 (k0_off1 k) k.val _ (k0_off1_eq k) (k0_off1_inb k),
    ← readAt_band arg16 X_arg16 (k0_off2 k) k.val _ (k0_off2_eq k) (k0_off2_inb k),
    ← readAt_band arg10 X_arg10 (k0_off3 k) k.val _ (k0_off3_eq k) (k0_off3_inb k)]
  unfold tripL_k0_t1 trip_k0_t1
  dsimp only
  sl_unfold_words
  rfl

/-- Whether an index lies in trip `k`'s row. -/
theorem mem_row (k : Fin k0_t1_loop.trips) (y : S11x44x3696.Idx) :
    y ∈ (Rect.unit (s := S11x44x3696) (k0_off4 k) S1x44x3696.size (k0_off4_inb k)).set ↔ (y 0).val = k.val := by
  rw [Rect.mem_set_unit, k0_off4_eq k]
  constructor
  · intro h
    have := h 0
    change k.val ≤ (y 0).val ∧ (y 0).val < k.val + 1 at this
    omega
  · intro h d
    fin_cases d
    · show k.val ≤ (y 0).val ∧ (y 0).val < k.val + 1
      omega
    · have := (y 1).isLt
      exact ⟨Nat.zero_le _, by show (y 1).val < 0 + 44; change (y 1).val < 44 at this; omega⟩
    · have := (y 2).isLt
      exact ⟨Nat.zero_le _, by show (y 2).val < 0 + 3696; change (y 2).val < 3696 at this; omega⟩

/-- After `n` trips the rows before `n` hold their logits. -/
theorem canon_pb (n : ℕ) (hn : n ≤ 11) (y : S11x44x3696.Idx) (hy : (y 0).val < n) :
    (∃ p ∈ pb_k0_t1 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v227 v400 X_arg10 X_arg14 X_arg16 n, y ∈ p.1.set)
      ∧ View.canon (pb_k0_t1 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v227 v400 X_arg10 X_arg14 X_arg16 n) y
        = scores v227 (arg14.view.read (Elt F) X_arg14) (arg16.view.read (Elt F) X_arg16) (arg10.view.read (Elt F) X_arg10) y := by
  induction n with
  | zero => omega
  | succ n ih =>
    have hk : n < k0_t1_loop.trips := by rw [trips1]; omega
    rw [pb_k0_t1_succ 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v227 v400 X_arg10 X_arg14 X_arg16 ⟨n, hk⟩, tripL_eq]
    rw [List.singleton_append]
    by_cases h : (y 0).val = n
    · have hm := (mem_row ⟨n, hk⟩ y).mpr h
      refine ⟨⟨_, List.mem_cons_self .., hm⟩, ?_⟩
      have hy' : y = (Rect.unit (s := S11x44x3696) (k0_off4 ⟨n, hk⟩) S1x44x3696.size (k0_off4_inb ⟨n, hk⟩)).emb (ix3 0 (y 1) (y 2)) := by
        funext d
        refine Fin.ext ?_
        have e := k0_off4_eq ⟨n, hk⟩
        fin_cases d
        · show (y 0).val = k0_off4 ⟨n, hk⟩ 0 + 1 * 0
          rw [e, h]; rfl
        · show (y 1).val = k0_off4 ⟨n, hk⟩ 1 + 1 * (y 1).val
          rw [e]; show _ = 0 + 1 * (y 1).val; omega
        · show (y 2).val = k0_off4 ⟨n, hk⟩ 2 + 1 * (y 2).val
          rw [e]; show _ = 0 + 1 * (y 2).val; omega
      have hr : (⟨n, by omega⟩ : Fin 11) = y 0 := Fin.ext h.symm
      conv_lhs => rw [hy']
      rw [View.canon_cons_emb]
      unfold scores
      rw [← hr]
    · obtain ⟨⟨p, hp, hyp⟩, hc⟩ := ih (by omega) (by omega)
      refine ⟨⟨p, List.mem_cons_of_mem _ hp, hyp⟩, ?_⟩
      refine (View.canon_cons_of_not_mem _ _ ?_).trans hc
      exact fun hm => h ((mem_row ⟨n, hk⟩ y).mp hm)

/-- The contents the first loop leaves, whatever the buffer held. -/
theorem writes_pb (f : BufTy.Contents (Elt F) arg13.view.ty) :
    arg13.view.writes (Elt F) f (pb_k0_t1 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v227 v400 X_arg10 X_arg14 X_arg16 k0_t1_loop.trips)
      = harg13.unread (scores v227 (arg14.view.read (Elt F) X_arg14) (arg16.view.read (Elt F) X_arg16) (arg10.view.read (Elt F) X_arg10)) := by
  refine harg13.eq_unread ?_
  have e : k0_t1_loop.trips = 11 := trips1
  rw [e]
  funext y
  have hlt : (y 0).val < 11 := (y 0).isLt
  have h := canon_pb 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v227 v400 X_arg10 X_arg14 X_arg16 11 le_rfl y hlt
  exact (View.read_writes_apply_eq_canon arg13.view f y _ h.1).trans h.2

/-- After the first loop its buffer holds the logits, and nothing of what it held before. -/
instance loopExit_k0_t1 (E : Set ℕ) (G_arg13 : BufTy.Contents (Elt F) arg13.view.ty) :
    LoopExit (loopInv_k0_t1 (F := F) 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v227 v400 X_arg10 X_arg14 X_arg16 G_arg13) where
  post _ := iprop((arg10.view.loc (c : Thread nD τ) ↦[arg10.view.set]{fullShare} X_arg10)
    ∗ (arg14.view.loc (c : Thread nD τ) ↦[arg14.view.set]{fullShare} X_arg14)
    ∗ (arg16.view.loc (c : Thread nD τ) ↦[arg16.view.set]{fullShare} X_arg16)
    ∗ (arg13.view.loc (c : Thread nD τ) ↦[arg13.view.set]{fullShare}
        harg13.unread (scores v227 (arg14.view.read (Elt F) X_arg14) (arg16.view.read (Elt F) X_arg16) (arg10.view.read (Elt F) X_arg10))))
  exit _ := by
    show inv_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v227 v400 X_arg10 X_arg14 X_arg16 G_arg13 _ _ ⊢ _
    iintro ⟨H10, H14, H16, ⟨%f, H13, %hf⟩⟩
    subst hf
    isplitl [H10]; · iexact H10
    isplitl [H14]; · iexact H14
    isplitl [H16]; · iexact H16
    rw [← writes_pb 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v227 v400 X_arg10 X_arg14 X_arg16 G_arg13]
    iexact H13

/-! ## The second loop -/

/-- One trip's step of the weighted sum: to `acc` the eleven column shifts' products of values and weights, from one row
    band of the values `A`, of the mask `M` and of the weights `W`. -/
def sumRow (acc : FVec F S4x8x3696 .f32) (A : Vec F S1x32x3712 .f32) (M : Vec F S1x1x3712 .f32) (W : Vec F S1x44x3696 .f32) :
    FVec F S4x8x3696 .f32 :=
  k0_pay97 (k0_pay20 A) (k0_pay21 M) (k0_pay22 W)
    (k0_pay25 (k0_pay20 A) (k0_pay21 M) (k0_pay22 W) (k0_pay23 acc A M W) (k0_pay24 A M W)) (k0_pay26 (k0_pay22 W)) (k0_pay27 (k0_pay21 M))

/-- The weighted sum after `n` trips. -/
def sums (x15 : Vec F S11x32x3712 .f32) (x16 : Vec F S11x1x3712 .f32) (x13 : Vec F S11x44x3696 .f32) (init : FVec F S4x8x3696 .f32) :
    ℕ → FVec F S4x8x3696 .f32
  | 0 => init
  | n + 1 => if h : n < 11 then sumRow (sums x15 x16 x13 init n) (band x15 ⟨n, h⟩) (band x16 ⟨n, h⟩) (band x13 ⟨n, h⟩)
      else sums x15 x16 x13 init n

/-- What trip `k` of the second loop yields. -/
theorem tripR_eq (k : Fin k0_t2_loop.trips) (acc : FVec F S4x8x3696 .f32) :
    tripR_k0_t2 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v1 v217 v440 v443 X_arg13 X_arg15 X_arg16 k acc
      = sumRow acc (band (arg15.view.read (Elt F) X_arg15) ⟨k.val, trips2 ▸ k.isLt⟩)
          (band (arg16.view.read (Elt F) X_arg16) ⟨k.val, trips2 ▸ k.isLt⟩) (band (arg13.view.read (Elt F) X_arg13) ⟨k.val, trips2 ▸ k.isLt⟩) := by
  rw [← readAt_band arg15 X_arg15 (k0_off5 k) k.val _ (k0_off5_eq k) (k0_off5_inb k),
    ← readAt_band arg16 X_arg16 (k0_off6 k) k.val _ (k0_off6_eq k) (k0_off6_inb k),
    ← readAt_band arg13 X_arg13 (k0_off7 k) k.val _ (k0_off7_eq k) (k0_off7_inb k)]
  unfold tripR_k0_t2 trip_k0_t2
  dsimp only
  sl_unfold_words
  rfl

/-- What the second loop carries before trip `n`. -/
theorem st_eq (init : FVec F S4x8x3696 .f32) (n : ℕ) (hn : n ≤ 11) :
    st_k0_t2 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v1 v217 v440 v443 X_arg13 X_arg15 X_arg16 init n
      = sums (arg15.view.read (Elt F) X_arg15) (arg16.view.read (Elt F) X_arg16) (arg13.view.read (Elt F) X_arg13) init n := by
  induction n with
  | zero => rfl
  | succ n ih =>
    have hk : n < k0_t2_loop.trips := by rw [trips2]; omega
    rw [st_k0_t2_succ 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v1 v217 v440 v443 X_arg13 X_arg15 X_arg16 init ⟨n, hk⟩, tripR_eq, ih (by omega)]
    rw [sums, dif_pos (by omega)]

end Cert.KernelIdeal.Gen

end
-- ==== Proof.KRunA.lean ====
/-
  The run of one grid point of the idealized kernel on whole staging memrefs. The second loop reads the buffer the first
  one fills; `loopExit_k0_t1` (KLoops.lean) hands that buffer on at the logits alone, so that what the point leaves in
  its outputs does not mention the buffer's contents on entry.
-/
module

public import proofs.«01_k».proof.Proof.Gen.KernelIdeal.Frame.Runs
public import proofs.«01_k».proof.Proof.KLoops

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 4000000 in
/-- What the body's stores leave in each output's staging memref, as pieces (last first), WITH the
    proof that on whole staging memrefs — the inputs' at their contents, the other outputs' at
    anything, the scratch buffers at anything, the body runs to the continuation holding the inputs' as they were,
    the scratch at some contents, each output's buffer with its pieces written: the printed functions are their skeletons
    (`Gen.*_eq_skeleton`), which `sl_exec` runs (Lib/Exec.lean); the pieces are
    the witness that run finds (assigned when `iexact` hands the buffer to the continuation). -/
noncomputable def kernelRun0_A (c : Dev nD) (i : grid0.Coords) (arg1 : Memref sig .tc .vmem S1x32x56x56 .f32) (harg1 : arg1.IsWhole) (arg2 : Memref sig .tc .vmem S9x32x32 .f32) (harg2 : arg2.IsWhole) (arg3 : Memref sig .tc .vmem S32x1 .f32) (harg3 : arg3.IsWhole) (arg4 : Memref sig .tc .vmem S32x1 .f32) (harg4 : arg4.IsWhole) (arg5 : Memref sig .tc .vmem S9x32x32 .f32) (harg5 : arg5.IsWhole) (arg6 : Memref sig .tc .vmem S9x1x32 .f32) (harg6 : arg6.IsWhole) (arg7 : Memref sig .tc .vmem S96x32 .f32) (harg7 : arg7.IsWhole) (arg8 : Memref sig .tc .vmem S32x32 .f32) (harg8 : arg8.IsWhole) (arg9 : Memref sig .tc .vmem S32x1 .f32) (harg9 : arg9.IsWhole) (arg10 : Memref sig .tc .vmem S11x4x11 .f32) (harg10 : arg10.IsWhole) (arg11 : Memref sig .tc .vmem S1x32x56x56 .f32) (harg11 : arg11.IsWhole) (arg12 : Memref sig .tc .vmem S1x1x56x56 .f32) (harg12 : arg12.IsWhole) (arg13 : Memref sig .tc .vmem S11x44x3696 .f32) (harg13 : arg13.IsWhole) (arg14 : Memref sig .tc .vmem S11x32x3712 .f32) (harg14 : arg14.IsWhole) (arg15 : Memref sig .tc .vmem S11x32x3712 .f32) (harg15 : arg15.IsWhole) (arg16 : Memref sig .tc .vmem S11x1x3712 .f32) (harg16 : arg16.IsWhole)
    (x0 : Vec F S1x32x56x56 .f32) (x1 : Vec F S9x32x32 .f32) (x2 : Vec F S32x1 .f32) (x3 : Vec F S32x1 .f32) (x4 : Vec F S9x32x32 .f32) (x5 : Vec F S9x1x32 .f32) (x6 : Vec F S96x32 .f32) (x7 : Vec F S32x32 .f32) (x8 : Vec F S32x1 .f32) (x9 : Vec F S11x4x11 .f32) :
    Σ' (L10 : List (View.Piece (Elt F) S1x32x56x56 .f32)), { L11 : List (View.Piece (Elt F) S1x1x56x56 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f L11) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)) -∗ K ⟨⟩))
          ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, fun E K => ?run⟩
  case run =>
    simp only [cc0__body_eq_skeleton]; unfold cc0__body_skel
    simp only [k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%ds0, %fs0, -, HS0⟩, ⟨%ds1, %fs1, -, HS1⟩, ⟨%ds2, %fs2, -, HS2⟩, ⟨%ds3, %fs3, -, HS3⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9
    sl_exec
    sl_step
    iapply Hk
    sl_close

end Cert.KernelIdeal.Gen

end
-- ==== Proof.KFrame.lean ====
/-
  The frame of the idealized kernel: what its two output windows hold after each grid point, the run of the whole program
  with those contents, and that its arguments end unchanged and every semaphore at zero.
  Follows the generated frame certificate, over the run of KRunA.lean in place of the generated one.
-/
module

public import proofs.«01_k».proof.Proof.KRunA
public import Idealize.ShloMosaic.Lib.Claim

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The run's pieces for output 10 tile its block (1 store of `S1x32x56x56`, checked by the kernel's evaluation: Lib/Ring.lean `Piece.tiledL`, linear in the pieces, through a loop's `@[irreducible]` trip theorem too), so they cover it. -/
theorem cover0_A_10 (c : Dev nD) (i : grid0.Coords) (arg1 : Memref sig .tc .vmem S1x32x56x56 .f32) (harg1 : arg1.IsWhole) (arg2 : Memref sig .tc .vmem S9x32x32 .f32) (harg2 : arg2.IsWhole) (arg3 : Memref sig .tc .vmem S32x1 .f32) (harg3 : arg3.IsWhole) (arg4 : Memref sig .tc .vmem S32x1 .f32) (harg4 : arg4.IsWhole) (arg5 : Memref sig .tc .vmem S9x32x32 .f32) (harg5 : arg5.IsWhole) (arg6 : Memref sig .tc .vmem S9x1x32 .f32) (harg6 : arg6.IsWhole) (arg7 : Memref sig .tc .vmem S96x32 .f32) (harg7 : arg7.IsWhole) (arg8 : Memref sig .tc .vmem S32x32 .f32) (harg8 : arg8.IsWhole) (arg9 : Memref sig .tc .vmem S32x1 .f32) (harg9 : arg9.IsWhole) (arg10 : Memref sig .tc .vmem S11x4x11 .f32) (harg10 : arg10.IsWhole) (arg11 : Memref sig .tc .vmem S1x32x56x56 .f32) (harg11 : arg11.IsWhole) (arg12 : Memref sig .tc .vmem S1x1x56x56 .f32) (harg12 : arg12.IsWhole) (arg13 : Memref sig .tc .vmem S11x44x3696 .f32) (harg13 : arg13.IsWhole) (arg14 : Memref sig .tc .vmem S11x32x3712 .f32) (harg14 : arg14.IsWhole) (arg15 : Memref sig .tc .vmem S11x32x3712 .f32) (harg15 : arg15.IsWhole) (arg16 : Memref sig .tc .vmem S11x1x3712 .f32) (harg16 : arg16.IsWhole)
    (x0 : Vec F S1x32x56x56 .f32) (x1 : Vec F S9x32x32 .f32) (x2 : Vec F S32x1 .f32) (x3 : Vec F S32x1 .f32) (x4 : Vec F S9x32x32 .f32) (x5 : Vec F S9x1x32 .f32) (x6 : Vec F S96x32 .f32) (x7 : Vec F S32x32 .f32) (x8 : Vec F S32x1 .f32) (x9 : Vec F S11x4x11 .f32) (y : S1x32x56x56.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9).1 S1x32x56x56.size (by sl_kernel_rfl) y

/-- What the run leaves in output 10's staging buffer: its pieces read back over junk. -/
def out0_A_10 (c : Dev nD) (i : grid0.Coords) (arg1 : Memref sig .tc .vmem S1x32x56x56 .f32) (harg1 : arg1.IsWhole) (arg2 : Memref sig .tc .vmem S9x32x32 .f32) (harg2 : arg2.IsWhole) (arg3 : Memref sig .tc .vmem S32x1 .f32) (harg3 : arg3.IsWhole) (arg4 : Memref sig .tc .vmem S32x1 .f32) (harg4 : arg4.IsWhole) (arg5 : Memref sig .tc .vmem S9x32x32 .f32) (harg5 : arg5.IsWhole) (arg6 : Memref sig .tc .vmem S9x1x32 .f32) (harg6 : arg6.IsWhole) (arg7 : Memref sig .tc .vmem S96x32 .f32) (harg7 : arg7.IsWhole) (arg8 : Memref sig .tc .vmem S32x32 .f32) (harg8 : arg8.IsWhole) (arg9 : Memref sig .tc .vmem S32x1 .f32) (harg9 : arg9.IsWhole) (arg10 : Memref sig .tc .vmem S11x4x11 .f32) (harg10 : arg10.IsWhole) (arg11 : Memref sig .tc .vmem S1x32x56x56 .f32) (harg11 : arg11.IsWhole) (arg12 : Memref sig .tc .vmem S1x1x56x56 .f32) (harg12 : arg12.IsWhole) (arg13 : Memref sig .tc .vmem S11x44x3696 .f32) (harg13 : arg13.IsWhole) (arg14 : Memref sig .tc .vmem S11x32x3712 .f32) (harg14 : arg14.IsWhole) (arg15 : Memref sig .tc .vmem S11x32x3712 .f32) (harg15 : arg15.IsWhole) (arg16 : Memref sig .tc .vmem S11x1x3712 .f32) (harg16 : arg16.IsWhole)
    (x0 : Vec F S1x32x56x56 .f32) (x1 : Vec F S9x32x32 .f32) (x2 : Vec F S32x1 .f32) (x3 : Vec F S32x1 .f32) (x4 : Vec F S9x32x32 .f32) (x5 : Vec F S9x1x32 .f32) (x6 : Vec F S96x32 .f32) (x7 : Vec F S32x32 .f32) (x8 : Vec F S32x1 .f32) (x9 : Vec F S11x4x11 .f32) : Vec F S1x32x56x56 .f32 :=
  VO0_10.read (Elt F) (VO0_10.writes (Elt F) VO0_10.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9).1)

/-- The run's pieces for output 11 tile its block (1 store of `S1x1x56x56`, checked by the kernel's evaluation: Lib/Ring.lean `Piece.tiledL`, linear in the pieces, through a loop's `@[irreducible]` trip theorem too), so they cover it. -/
theorem cover0_A_11 (c : Dev nD) (i : grid0.Coords) (arg1 : Memref sig .tc .vmem S1x32x56x56 .f32) (harg1 : arg1.IsWhole) (arg2 : Memref sig .tc .vmem S9x32x32 .f32) (harg2 : arg2.IsWhole) (arg3 : Memref sig .tc .vmem S32x1 .f32) (harg3 : arg3.IsWhole) (arg4 : Memref sig .tc .vmem S32x1 .f32) (harg4 : arg4.IsWhole) (arg5 : Memref sig .tc .vmem S9x32x32 .f32) (harg5 : arg5.IsWhole) (arg6 : Memref sig .tc .vmem S9x1x32 .f32) (harg6 : arg6.IsWhole) (arg7 : Memref sig .tc .vmem S96x32 .f32) (harg7 : arg7.IsWhole) (arg8 : Memref sig .tc .vmem S32x32 .f32) (harg8 : arg8.IsWhole) (arg9 : Memref sig .tc .vmem S32x1 .f32) (harg9 : arg9.IsWhole) (arg10 : Memref sig .tc .vmem S11x4x11 .f32) (harg10 : arg10.IsWhole) (arg11 : Memref sig .tc .vmem S1x32x56x56 .f32) (harg11 : arg11.IsWhole) (arg12 : Memref sig .tc .vmem S1x1x56x56 .f32) (harg12 : arg12.IsWhole) (arg13 : Memref sig .tc .vmem S11x44x3696 .f32) (harg13 : arg13.IsWhole) (arg14 : Memref sig .tc .vmem S11x32x3712 .f32) (harg14 : arg14.IsWhole) (arg15 : Memref sig .tc .vmem S11x32x3712 .f32) (harg15 : arg15.IsWhole) (arg16 : Memref sig .tc .vmem S11x1x3712 .f32) (harg16 : arg16.IsWhole)
    (x0 : Vec F S1x32x56x56 .f32) (x1 : Vec F S9x32x32 .f32) (x2 : Vec F S32x1 .f32) (x3 : Vec F S32x1 .f32) (x4 : Vec F S9x32x32 .f32) (x5 : Vec F S9x1x32 .f32) (x6 : Vec F S96x32 .f32) (x7 : Vec F S32x32 .f32) (x8 : Vec F S32x1 .f32) (x9 : Vec F S11x4x11 .f32) (y : S1x1x56x56.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9).2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9).2.1 S1x1x56x56.size (by sl_kernel_rfl) y

/-- What the run leaves in output 11's staging buffer: its pieces read back over junk. -/
def out0_A_11 (c : Dev nD) (i : grid0.Coords) (arg1 : Memref sig .tc .vmem S1x32x56x56 .f32) (harg1 : arg1.IsWhole) (arg2 : Memref sig .tc .vmem S9x32x32 .f32) (harg2 : arg2.IsWhole) (arg3 : Memref sig .tc .vmem S32x1 .f32) (harg3 : arg3.IsWhole) (arg4 : Memref sig .tc .vmem S32x1 .f32) (harg4 : arg4.IsWhole) (arg5 : Memref sig .tc .vmem S9x32x32 .f32) (harg5 : arg5.IsWhole) (arg6 : Memref sig .tc .vmem S9x1x32 .f32) (harg6 : arg6.IsWhole) (arg7 : Memref sig .tc .vmem S96x32 .f32) (harg7 : arg7.IsWhole) (arg8 : Memref sig .tc .vmem S32x32 .f32) (harg8 : arg8.IsWhole) (arg9 : Memref sig .tc .vmem S32x1 .f32) (harg9 : arg9.IsWhole) (arg10 : Memref sig .tc .vmem S11x4x11 .f32) (harg10 : arg10.IsWhole) (arg11 : Memref sig .tc .vmem S1x32x56x56 .f32) (harg11 : arg11.IsWhole) (arg12 : Memref sig .tc .vmem S1x1x56x56 .f32) (harg12 : arg12.IsWhole) (arg13 : Memref sig .tc .vmem S11x44x3696 .f32) (harg13 : arg13.IsWhole) (arg14 : Memref sig .tc .vmem S11x32x3712 .f32) (harg14 : arg14.IsWhole) (arg15 : Memref sig .tc .vmem S11x32x3712 .f32) (harg15 : arg15.IsWhole) (arg16 : Memref sig .tc .vmem S11x1x3712 .f32) (harg16 : arg16.IsWhole)
    (x0 : Vec F S1x32x56x56 .f32) (x1 : Vec F S9x32x32 .f32) (x2 : Vec F S32x1 .f32) (x3 : Vec F S32x1 .f32) (x4 : Vec F S9x32x32 .f32) (x5 : Vec F S9x1x32 .f32) (x6 : Vec F S96x32 .f32) (x7 : Vec F S32x32 .f32) (x8 : Vec F S32x1 .f32) (x9 : Vec F S11x4x11 .f32) : Vec F S1x1x56x56 .f32 :=
  VO0_11.read (Elt F) (VO0_11.writes (Elt F) VO0_11.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9).2.1)

/-! ## What the outputs hold after each point -/

/-- What the outputs' staging buffers hold after the body at point `t` (as a tuple, in window order): the run's contents at
    the point's memrefs and input blocks. -/
def outsAt0 (c : Dev nD) (t : Fin cfg0.N) : Vec F S1x32x56x56 .f32 × Vec F S1x1x56x56 .f32 :=
  (out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) (iblk m c 6 t) (iblk m c 7 t) (iblk m c 8 t) (iblk m c 9 t), out0_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) (iblk m c 6 t) (iblk m c 7 t) (iblk m c 8 t) (iblk m c 9 t))

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => (outsAt0 m c t).1
    | ⟨11, _⟩ => (outsAt0 m c t).2
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = (outsAt0 m c t).1 := by dsimp only [dats]
theorem after0_11 (c : Dev nD) (t : Fin cfg0.N) : (dats m 0 c).after 11 t = (outsAt0 m c t).2 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t))

set_option maxHeartbeats 1600000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11]
  rw [show (dats m 0 c).Φ t.castSucc = Pipeline.ΦA spec0 c from rfl, PhiA0_eq]
  unfold outsAt0
  unfold out0_A_10 out0_A_11; (try dsimp only)
  iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply ((kernelRun0_A c (grid0.coords t) _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t)).2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  isplitl [HS0]; · iexact HS0
  isplitl [HS1]; · iexact HS1
  isplitl [HS2]; · iexact HS2
  isplitl [HS3]; · iexact HS3
  iintro ⟨H0, H1, H2, H3, H4, H5, H6, H7, H8, H9, ⟨%e10, H10⟩, ⟨%e11, H11⟩, HS0, HS1, HS2, HS3⟩
  isplitl [HS0 HS1 HS2 HS3 Hg]
  · isplitl [HS0 HS1 HS2 HS3]
    · isplitl [HS0]
      · iexact HS0
      isplitl [HS1]
      · iexact HS1
      isplitl [HS2]
      · iexact HS2
      iexact HS3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]
  · unfold owns; iexists _; isplitr
    swap; · iexact H10
    ipureintro; exact View.read_writes_of_cover _ _ _ _ _ (cover0_A_10 c _ _ _ _ _ _ _ _ _ _ _ _ _ _ _ _ _ _ _ _ _ _ _ _ _ _ _ _ _ _ _ _ _ _ _ _ _ _ _ _ _ _ _)
  unfold owns; iexists _; isplitr
  swap; · iexact H11
  ipureintro; exact View.read_writes_of_cover _ _ _ _ _ (cover0_A_11 c _ _ _ _ _ _ _ _ _ _ _ _ _ _ _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame_around`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the lines after the region leave it (Lib/Pipeline/Frame.lean `FramePost`). -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  frame_of m ρ (dats m) (A_eq m) (run_main m ρ)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12))
      ∧ r.2.sem = fun _ => 0) :=
  θ_run_and (unchanged m ρ) ((θ_run defs _ _).mono (fun _ h => h.2) (run_main_quiescent m ρ))

end Cert.KernelIdeal.Gen

end
-- ==== Proof.Spec.lean ====
/-
  The mathematics both programs compute, over extended reals, at natural-number coordinates.
-/
module

public import Idealize.ShloMosaic.PureOps.Ideal

@[expose] public section

noncomputable section

namespace Cert.Spec

open Idealize.ShloMosaic

/-- An `n × n` image with a border of `p` zeros. -/
def padf (p n : ℕ) (f : ℕ → ℕ → EReal) (r c : ℕ) : EReal :=
  if (p ≤ r ∧ r < p + n) ∧ (p ≤ c ∧ c < p + n) then f (r - p) (c - p) else 0

/-- One tap of a 3×3 convolution with zero border: the channels' products at the image shifted by `(i, j)`. -/
def tap (w : ℕ → ℕ → ℕ → ℕ → EReal) (x : ℕ → ℕ → ℕ → EReal) (i j o h q : ℕ) : EReal :=
  ∑ k : Fin 32, w o k i j * padf 1 56 (x k) (i + h) (j + q)

/-- The 3×3 convolution: its nine taps added left to right. -/
def conv3 (w : ℕ → ℕ → ℕ → ℕ → EReal) (x : ℕ → ℕ → ℕ → EReal) (o h q : ℕ) : EReal :=
  tap w x 0 0 o h q + tap w x 0 1 o h q + tap w x 0 2 o h q + tap w x 1 0 o h q + tap w x 1 1 o h q + tap w x 1 2 o h q
    + tap w x 2 0 o h q + tap w x 2 1 o h q + tap w x 2 2 o h q

/-- The mask of an image: two convolutions with a ramp after each, `bn` between the first and its ramp, and a third under the logistic function. -/
def maskVal (X : ℕ → ℕ → ℕ → EReal) (W1 W2 W3 : ℕ → ℕ → ℕ → ℕ → EReal) (bn : ℕ → EReal → EReal) (h w : ℕ) : EReal :=
  Ideal.logistic (conv3 W3 (fun c h w => max (conv3 W2 (fun c h w => max (bn c (conv3 W1 X c h w)) 0) c h w) 0) 0 h w)

/-- One where the mask is over one half, and zero elsewhere. -/
def bit (y : EReal) : EReal := if Ideal.ofBits .f32 0x3F000000#32 < y then 1 else 0

/-- The heads' scale, `1 / √8` as the float word that both programs hold. -/
def scale : EReal := Ideal.ofBits .f32 0x3EB504F3#32

/-- A 1×1 convolution over 32 channels. -/
def proj (w : ℕ → ℕ → EReal) (x : ℕ → ℕ → ℕ → EReal) (o h q : ℕ) : EReal := ∑ k : Fin 32, w o k * x k h q

/-- The logit of head `n` at shift `j` of one row band, on flat images: the products of the query and the key summed over the head's channels,
    times the mask and the scale, plus the position's bias. -/
def bandScore (q K : ℕ → ℕ → EReal) (M : ℕ → EReal) (B : ℕ → ℕ → EReal) (n p j : ℕ) : EReal :=
  (∑ c : Fin 32, (if c.val / 8 = n then 1 else 0) * (q c p * K c (j + p))) * (M (j + p) * scale) + B n j

/-- The weighted values of channel `c` of one row band, on flat images, summed over the eleven shifts. -/
def bandSum (V : ℕ → ℕ → EReal) (M : ℕ → EReal) (A : ℕ → ℕ → ℕ → EReal) (c p : ℕ) : EReal :=
  ∑ j : Fin 11, V c (j + p) * (A (c / 8) p j * M (j + p))

/-- A padded `66 × 66` image laid flat, with zeros after it. -/
def flatPad (f : ℕ → ℕ → EReal) (t : ℕ) : EReal := if t < 4356 then padf 5 56 f (t / 66) (t % 66) else 0

/-- The logit of head `n` at the pixel `(h, w)` and the shift `(r, j)`: the key and the mask are read with a border of five zeros. -/
def score (Q K : ℕ → ℕ → ℕ → EReal) (M : ℕ → ℕ → EReal) (B : ℕ → ℕ → ℕ → EReal) (n h w r j : ℕ) : EReal :=
  (∑ c : Fin 32, (if c.val / 8 = n then 1 else 0) * (Q c h w * padf 5 56 (K c) (h + r) (w + j))) * (padf 5 56 M (h + r) (w + j) * scale) + B n r j

/-- The largest of 121 logits, and the weight that the kernel gives to shift `d`: the exponential of the difference, times the reciprocal of the sum. -/
def top (f : ℕ → EReal) : EReal := Finset.fold max (Ideal.ofBits .f32 0xFF800000#32) (fun x : Fin 121 => f x) Finset.univ
def weight (f : ℕ → EReal) (d : ℕ) : EReal := Ideal.exp (f d - top f) * Ideal.div 1 (∑ x : Fin 121, Ideal.exp (f x - top f))

/-- The weighted sum of the values of channel `c` over the eleven by eleven shifts. -/
def mix (V : ℕ → ℕ → ℕ → EReal) (M : ℕ → ℕ → EReal) (A : ℕ → ℕ → ℕ → EReal) (c h w : ℕ) : EReal :=
  ∑ r : Fin 11, ∑ j : Fin 11, padf 5 56 (V c) (h + r) (w + j) * (A (c / 8) r j * padf 5 56 M (h + r) (w + j))

/-- The feature map as the kernel computes it, of an image `X`, a mask `M`, the weights `W` of queries, keys and values, the position bias `B`, and the
    projection `P` with its bias `b`. -/
def feat (X : ℕ → ℕ → ℕ → EReal) (W : ℕ → ℕ → EReal) (M : ℕ → ℕ → EReal) (B : ℕ → ℕ → ℕ → EReal) (P : ℕ → ℕ → EReal) (b : ℕ → EReal) (c h w : ℕ) : EReal :=
  X c h w + ((∑ k : Fin 32, P c k * (mix (fun c => proj W X (64 + c)) M
      (fun n r j => weight (fun d => score (proj W X) (fun c => proj W X (32 + c)) M B n h w (d / 11) (d % 11)) (r * 11 + j)) k h w * (1 - M h w))) + b c) * (1 - M h w)

end Cert.Spec

end
-- ==== Proof.KMask.lean ====
/- What one grid point stores as its mask: three 3×3 convolutions with zero border, read at an index. -/
module

public import proofs.«01_k».proof.Proof.Spec
public import proofs.«01_k».proof.Proof.Gen.KernelIdeal.Skeleton
public import Idealize.ShloMosaic.Lib.Pointwise

@[expose] public section

noncomputable section

namespace Cert.KernelIdeal.Gen
open Cert.Spec Idealize.ShloMosaic Cert.KernelIdeal

/-- `conv1`'s padded image at an index. -/
theorem pay30_at (v0 : Vec Ideal S1x32x56x56 .f32) (X : ℕ → ℕ → ℕ → EReal)
    (hx : ∀ a c r q, v0 (ix4 a c r q) = X c r q) (c : Fin 32) (r q : Fin 58) :
    k0_pay30 (F := Ideal) v0 (ix3 c r q) = padf 1 56 (X c) r q := by
  pointwise [k0_pay30, k0_pay28]
  simp only [hx, padf]
  have := r.2; have := q.2
  split_ifs <;> first | omega | simp

/-- A flat image put back to `56 × 56` and padded, at an index. -/
theorem pay40_at (z : FVec Ideal S32x3136 .f32) (Z : ℕ → ℕ → ℕ → EReal)
    (hz : ∀ (c : Fin 32) (l : Fin 3136), z (ix2 c l) = Z c (l.val / 56) (l.val % 56)) (c : Fin 32) (r q : Fin 58) :
    k0_pay40 (F := Ideal) z (ix3 c r q) = padf 1 56 (Z c) r q := by
  pointwise [k0_pay40]
  simp only [hz, padf]
  have := r.2; have := q.2
  have e : ∀ a b : ℕ, b < 56 → (a * 56 + b) / 56 = a ∧ (a * 56 + b) % 56 = b := by omega
  split_ifs <;> first | omega | (rw [(e _ _ (by omega)).1, (e _ _ (by omega)).2]) | simp

/-- The padded image after the first convolution, normalisation and ramp. -/
theorem pay35_at (v2 : Vec Ideal S9x32x32 .f32) (v0 : Vec Ideal S1x32x56x56 .f32) (bs bb : Vec Ideal S32x1 .f32)
    (X : ℕ → ℕ → ℕ → EReal) (W : ℕ → ℕ → ℕ → ℕ → EReal) (S B : ℕ → EReal)
    (hx : ∀ a c r q, v0 (ix4 a c r q) = X c r q)
    (hw : ∀ t o k, v2 (ix3 t o k) = W o k (t.val / 3) (t.val % 3))
    (hs : ∀ c a, bs (ix2 c a) = S c) (hb : ∀ c a, bb (ix2 c a) = B c)
    (c : Fin 32) (r q : Fin 58) :
    k0_pay35 (F := Ideal) (k0_pay29 v2) (k0_pay30 v0) (k0_pay31 v0 v2) (k0_pay32 v0) (k0_pay33 v2) bs bb (ix3 c r q)
      = padf 1 56 (fun h w => max (conv3 W X c h w * S c + B c) 0) r q := by
  refine pay40_at _ (fun c h w => max (conv3 W X c h w * S c + B c) 0) (fun c l => ?_) c r q
  unfold k0_pay31 k0_pay32
  have h30 := pay30_at v0 X hx
  generalize k0_pay30 (F := Ideal) v0 = y at *
  pointwise [k0_pay29, k0_pay33]
  simp only [h30, hw, hs, hb, conv3, tap, zero_add]
  rfl

/-- The second convolution and ramp. -/
theorem pay38_at (v2 : Vec Ideal S9x32x32 .f32) (y : FVec Ideal S32x58x58 .f32)
    (X : ℕ → ℕ → ℕ → EReal) (W : ℕ → ℕ → ℕ → ℕ → EReal)
    (hy : ∀ c r q, y (ix3 c r q) = padf 1 56 (X c) r q)
    (hw : ∀ t o k, v2 (ix3 t o k) = W o k (t.val / 3) (t.val % 3))
    (c : Fin 32) (l : Fin 3136) :
    k0_pay38 (F := Ideal) (k0_pay34 v2) y (shapeCast S32x3136 (extractStridedSlice S32x56x56 ![0, 0, 0] y slices_S32x58x58_o0_0_0_S32x56x56) shapeCasts_S32x56x56_S32x3136)
        (k0_pay37 v2) (constant S32x3136 .f32 0x00000000#32) (ix2 c l)
      = max (conv3 W X c (l.val / 56) (l.val % 56)) 0 := by
  pointwise [k0_pay38, k0_pay34, k0_pay37]
  simp only [hy, hw, conv3, tap, zero_add]
  rfl

/-- The third convolution and the logistic function. -/
theorem pay44_at (v144 : Vec Ideal S9x1x32 .f32) (z : FVec Ideal S32x3136 .f32)
    (X : ℕ → ℕ → ℕ → EReal) (W : ℕ → ℕ → ℕ → ℕ → EReal)
    (hz : ∀ (c : Fin 32) (l : Fin 3136), z (ix2 c l) = X c (l.val / 56) (l.val % 56))
    (hw : ∀ t o k, v144 (ix3 t o k) = W o k (t.val / 3) (t.val % 3))
    (c : Fin 1) (l : Fin 3136) :
    k0_pay44 (F := Ideal) (k0_pay39 v144) (k0_pay40 z) (k0_pay41 z v144) (k0_pay42 z) (k0_pay43 v144) (ix2 c l)
      = Ideal.logistic (conv3 W X 0 (l.val / 56) (l.val % 56)) := by
  unfold k0_pay41 k0_pay42
  have h40 := pay40_at z X hz
  generalize k0_pay40 (F := Ideal) z = y at *
  obtain rfl : c = 0 := Subsingleton.elim _ _
  pointwise [k0_pay44, k0_pay39, k0_pay43]
  simp only [h40, hw, conv3, tap, zero_add]
  rfl

end Cert.KernelIdeal.Gen
end
-- ==== Proof.KBands.lean ====
/- A row-band buffer holds, in its row `r`, the stretch of a flat image that starts at the flat position `66 * r`. Eleven stores, one for each
   row, fill it; whatever the order of the payloads' operations, each is a slice of the flat image, reshaped. -/
module

public import proofs.«01_k».proof.Proof.KFrame
public import Idealize.ShloMosaic.Lib.Pointwise

@[expose] public section

noncomputable section

namespace Cert.KernelIdeal.Gen

open Idealize.ShloMosaic Idealize.ShloMosaic.TcCoe Idealize.ShloMosaic.Tactic
open Idealize.SL Idealize.SL.RA Idealize.SL.BI
open Idealize.SL.Sem

variable {F : FTy → Type} [FloatOps F] {a : ℕ}

/-- The row bands of a flat image. -/
def bands (z : FVec F ⟨2, ![a, 4372]⟩ .f32) : Vec F ⟨3, ![11, a, 3712]⟩ .f32 := fun y =>
  z (ix2 (y 1) ⟨66 * (y 0).val + (y 2).val, by
    have h0 : (y 0).val < 11 := (y 0).isLt
    have h2 : (y 2).val < 3712 := (y 2).isLt
    omega⟩)

/-- The payload of row `r`: a slice of the flat image at `66 * r`, with a unit axis put in front. -/
theorem row_piece (z : FVec F ⟨2, ![a, 4372]⟩ .f32) (r o : ℕ) (ho : o = 66 * r) (inb)
    (hs : (⟨2, ![a, 4372]⟩ : Shape).Slices ![0, o] ⟨2, ![a, 3712]⟩) (hc : (⟨2, ![a, 3712]⟩ : Shape).ShapeCasts ⟨3, ![1, a, 3712]⟩)
    (x : (⟨3, ![1, a, 3712]⟩ : Shape).Idx) :
    shapeCast ⟨3, ![1, a, 3712]⟩ (extractStridedSlice ⟨2, ![a, 3712]⟩ ![0, o] z hs) hc x
      = bands z ((Rect.unit (s := ⟨3, ![11, a, 3712]⟩) ![r, 0, 0] ![1, a, 3712] inb).emb x) := by
  have h0 : (x 0).val < 1 := (x 0).isLt
  have h2 : (x 2).val < 3712 := (x 2).isLt
  have hb : o + (x 2).val < 4372 := by
    have h := hs.2 1
    change o + 3712 ≤ 4372 at h
    omega
  refine (shapeCast_addUnit_apply ![a, 3712] _ hc x).trans ?_
  refine (extractStridedSlice_apply ![0, o] z hs _ (ix2 (x 1) ⟨o + (x 2).val, hb⟩) ?_).trans ?_
  · intro d
    fin_cases d
    · show (x 1).val = 0 + (x 1).val
      omega
    · rfl
  · unfold bands
    congr 1
    funext d
    refine Fin.ext ?_
    fin_cases d
    · show (x 1).val = 0 + 1 * (x 1).val
      omega
    · show o + (x 2).val = 66 * (r + 1 * (x 0).val) + (0 + 1 * (x 2).val)
      omega

/-- One more store: if the stores before it fill the rows before `r`, it fills row `r`. -/
theorem canon_row (z : FVec F ⟨2, ![a, 4372]⟩ .f32) (r : ℕ) (inb)
    (w : Vec F ⟨3, ![1, a, 3712]⟩ .f32) (L : List (View.Piece (Elt F) ⟨3, ![11, a, 3712]⟩ .f32))
    (hw : ∀ x, w x = bands z ((Rect.unit (s := ⟨3, ![11, a, 3712]⟩) ![r, 0, 0] ![1, a, 3712] inb).emb x))
    (hL : ∀ y : (⟨3, ![11, a, 3712]⟩ : Shape).Idx, (y 0).val < r → View.canon L y = bands z y)
    (y : (⟨3, ![11, a, 3712]⟩ : Shape).Idx) (hy : (y 0).val < r + 1) :
    View.canon (⟨Rect.unit (s := ⟨3, ![11, a, 3712]⟩) ![r, 0, 0] ![1, a, 3712] inb, w⟩ :: L) y = bands z y := by
  by_cases h : (y 0).val = r
  · have e : y = (Rect.unit (s := ⟨3, ![11, a, 3712]⟩) ![r, 0, 0] ![1, a, 3712] inb).emb (ix3 0 (y 1) (y 2)) := by
      funext d
      refine Fin.ext ?_
      fin_cases d
      · show (y 0).val = r + 1 * 0
        omega
      · show (y 1).val = 0 + 1 * (y 1).val
        omega
      · show (y 2).val = 0 + 1 * (y 2).val
        omega
    rw [e, View.canon_cons_emb, hw]
  · refine (View.canon_cons_of_not_mem _ _ ?_).trans (hL y (by omega))
    intro hm
    have := (Rect.mem_set_unit (inb := inb)).mp hm 0
    change r ≤ (y 0).val ∧ (y 0).val < r + 1 at this
    omega

/-- All eleven rows filled. -/
theorem canon_rows (z : FVec F ⟨2, ![a, 4372]⟩ .f32) (L : List (View.Piece (Elt F) ⟨3, ![11, a, 3712]⟩ .f32))
    (hL : ∀ y : (⟨3, ![11, a, 3712]⟩ : Shape).Idx, (y 0).val < 11 → View.canon L y = bands z y) : View.canon L = bands z :=
  funext fun y => hL y (y 0).isLt

/-- No row is asked for before the first store. -/
theorem canon_none (z : FVec F ⟨2, ![a, 4372]⟩ .f32) (y : (⟨3, ![11, a, 3712]⟩ : Shape).Idx) (hy : (y 0).val < 0) :
    View.canon ([] : List (View.Piece (Elt F) ⟨3, ![11, a, 3712]⟩ .f32)) y = bands z y := absurd hy (Nat.not_lt_zero _)

end Cert.KernelIdeal.Gen

end
-- ==== Proof.KPoint.lean ====
/- What one grid point stores, as functions of its ten input blocks: the mask, and the feature map after the windowed attention. -/
module

public import proofs.«01_k».proof.Proof.KBands

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open Idealize.SL.Sem

variable {F : FTy → Type} [FloatOps F]
variable (c : Dev nD) (i : grid0.Coords) (arg1 : Memref sig .tc .vmem S1x32x56x56 .f32) (harg1 : arg1.IsWhole) (arg2 : Memref sig .tc .vmem S9x32x32 .f32) (harg2 : arg2.IsWhole) (arg3 : Memref sig .tc .vmem S32x1 .f32) (harg3 : arg3.IsWhole) (arg4 : Memref sig .tc .vmem S32x1 .f32) (harg4 : arg4.IsWhole) (arg5 : Memref sig .tc .vmem S9x32x32 .f32) (harg5 : arg5.IsWhole) (arg6 : Memref sig .tc .vmem S9x1x32 .f32) (harg6 : arg6.IsWhole) (arg7 : Memref sig .tc .vmem S96x32 .f32) (harg7 : arg7.IsWhole) (arg8 : Memref sig .tc .vmem S32x32 .f32) (harg8 : arg8.IsWhole) (arg9 : Memref sig .tc .vmem S32x1 .f32) (harg9 : arg9.IsWhole) (arg10 : Memref sig .tc .vmem S11x4x11 .f32) (harg10 : arg10.IsWhole) (arg11 : Memref sig .tc .vmem S1x32x56x56 .f32) (harg11 : arg11.IsWhole) (arg12 : Memref sig .tc .vmem S1x1x56x56 .f32) (harg12 : arg12.IsWhole) (arg13 : Memref sig .tc .vmem S11x44x3696 .f32) (harg13 : arg13.IsWhole) (arg14 : Memref sig .tc .vmem S11x32x3712 .f32) (harg14 : arg14.IsWhole) (arg15 : Memref sig .tc .vmem S11x32x3712 .f32) (harg15 : arg15.IsWhole) (arg16 : Memref sig .tc .vmem S11x1x3712 .f32) (harg16 : arg16.IsWhole)
variable (x0 : Vec F S1x32x56x56 .f32) (x1 : Vec F S9x32x32 .f32) (x2 : Vec F S32x1 .f32) (x3 : Vec F S32x1 .f32) (x4 : Vec F S9x32x32 .f32) (x5 : Vec F S9x1x32 .f32) (x6 : Vec F S96x32 .f32) (x7 : Vec F S32x32 .f32) (x8 : Vec F S32x1 .f32) (x9 : Vec F S11x4x11 .f32)

/-- The padded image after the first convolution, the normalisation and the ramp. -/
def act1 (x0 : Vec F S1x32x56x56 .f32) (x1 : Vec F S9x32x32 .f32) (x2 x3 : Vec F S32x1 .f32) : FVec F S32x58x58 .f32 :=
  k0_pay35 (k0_pay29 x1) (k0_pay30 x0) (k0_pay31 x0 x1) (k0_pay32 x0) (k0_pay33 x1) x2 x3

/-- The flat image after the second convolution and ramp. -/
def act2 (x0 : Vec F S1x32x56x56 .f32) (x1 : Vec F S9x32x32 .f32) (x2 x3 : Vec F S32x1 .f32) (x4 : Vec F S9x32x32 .f32) : FVec F S32x3136 .f32 :=
  k0_pay38 (k0_pay34 x4) (act1 x0 x1 x2 x3)
    (k0_pay36 (k0_pay29 x1) (k0_pay30 x0) (k0_pay31 x0 x1) (k0_pay32 x0) (k0_pay33 x1) x2 x3) (k0_pay37 x4) (constant S32x3136 .f32 0x00000000#32)

/-- The mask a point stores. -/
def maskOut (x0 : Vec F S1x32x56x56 .f32) (x1 : Vec F S9x32x32 .f32) (x2 x3 : Vec F S32x1 .f32) (x4 : Vec F S9x32x32 .f32) (x5 : Vec F S9x1x32 .f32) : FVec F S1x1x56x56 .f32 :=
  k0_pay45 (k0_pay39 x5) (k0_pay40 (act2 x0 x1 x2 x3 x4)) (k0_pay41 (act2 x0 x1 x2 x3 x4) x5) (k0_pay42 (act2 x0 x1 x2 x3 x4)) (k0_pay43 x5)

theorem hz2 : (![0, 0] : Fin 2 → ℕ) = fun _ => 0 := by funext a; fin_cases a <;> rfl
theorem hz3 : (![0, 0, 0] : Fin 3 → ℕ) = fun _ => 0 := by funext a; fin_cases a <;> rfl
theorem hz4 : (![0, 0, 0, 0] : Fin 4 → ℕ) = fun _ => 0 := by funext a; fin_cases a <;> rfl

theorem out11_eq : out0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 = maskOut x0 x1 x2 x3 x4 x5 := by
  unfold out0_A_11
  rw [View.read_writes_eq_canon _ _ _ (cover0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9)]
  unfold kernelRun0_A
  dsimp only
  sl_unfold_words
  have ex0 : View.ld x0 (Rect.unit ![0, 0, 0, 0] ![1, 32, 56, 56] inb_S1x32x56x56_S1x32x56x56_0_0_0_0) = x0 := View.ld_unit_zero hz4 _ _
  have ex1 : View.ld x1 (Rect.unit ![0, 0, 0] ![9, 32, 32] inb_S9x32x32_S9x32x32_0_0_0) = x1 := View.ld_unit_zero hz3 _ _
  have ex2 : View.ld x2 (Rect.unit ![0, 0] ![32, 1] inb_S32x1_S32x1_0_0) = x2 := View.ld_unit_zero hz2 _ _
  have ex3 : View.ld x3 (Rect.unit ![0, 0] ![32, 1] inb_S32x1_S32x1_0_0) = x3 := View.ld_unit_zero hz2 _ _
  have ex4 : View.ld x4 (Rect.unit ![0, 0, 0] ![9, 32, 32] inb_S9x32x32_S9x32x32_0_0_0) = x4 := View.ld_unit_zero hz3 _ _
  have ex5 : View.ld x5 (Rect.unit ![0, 0, 0] ![9, 1, 32] inb_S9x1x32_S9x1x32_0_0_0) = x5 := View.ld_unit_zero hz3 _ _
  have ex6 : View.ld x6 (Rect.unit ![0, 0] ![96, 32] inb_S96x32_S96x32_0_0) = x6 := View.ld_unit_zero hz2 _ _
  have ex7 : View.ld x7 (Rect.unit ![0, 0] ![32, 32] inb_S32x32_S32x32_0_0) = x7 := View.ld_unit_zero hz2 _ _
  have ex8 : View.ld x8 (Rect.unit ![0, 0] ![32, 1] inb_S32x1_S32x1_0_0) = x8 := View.ld_unit_zero hz2 _ _
  simp only [View.readAt_eq_ld, harg1.read_unread, harg2.read_unread, harg3.read_unread, harg4.read_unread, harg5.read_unread, harg6.read_unread, harg7.read_unread, harg8.read_unread, harg9.read_unread, harg10.read_unread, harg13.read_unread, ex0, ex1, ex2, ex3, ex4, ex5, ex6, ex7, ex8]
  exact View.canon_unit_zero hz4 _ _

/-- The mask as ones and zeros. -/
def maskBit (x0 : Vec F S1x32x56x56 .f32) (x1 : Vec F S9x32x32 .f32) (x2 x3 : Vec F S32x1 .f32) (x4 : Vec F S9x32x32 .f32) (x5 : Vec F S9x1x32 .f32) : FVec F S56x56 .f32 :=
  k0_pay46 (k0_pay39 x5) (k0_pay40 (act2 x0 x1 x2 x3 x4)) (k0_pay41 (act2 x0 x1 x2 x3 x4) x5) (k0_pay42 (act2 x0 x1 x2 x3 x4)) (k0_pay43 x5)

/-- The row bands of the padded keys, values and mask, each flat. -/
def keyBands (x0 : Vec F S1x32x56x56 .f32) (x6 : Vec F S96x32 .f32) : Vec F S11x32x3712 .f32 := bands (k0_pay50 (k0_pay49 (k0_pay28 x0) x6))
def valueBands (x0 : Vec F S1x32x56x56 .f32) (x6 : Vec F S96x32 .f32) : Vec F S11x32x3712 .f32 := bands (k0_pay51 (k0_pay47 (k0_pay28 x0) x6))
def maskBands (m : FVec F S56x56 .f32) : Vec F S11x1x3712 .f32 := bands (k0_pay52 m)

/-- The logits of one point, and their softmax over the 121 shifts. -/
def logits (x0 : Vec F S1x32x56x56 .f32) (x6 : Vec F S96x32 .f32) (m : FVec F S56x56 .f32) (x9 : Vec F S11x4x11 .f32) : Vec F S11x44x3696 .f32 :=
  scores (k0_pay48 (k0_pay28 x0) x6) (keyBands x0 x6) (maskBands m) x9
def weights (s : Vec F S11x44x3696 .f32) : Vec F S11x44x3696 .f32 := k0_pay95 (k0_pay93 s) (k0_pay94 s)

/-- The feature map a point stores, of a mask of ones and zeros. -/
def featOut (x0 : Vec F S1x32x56x56 .f32) (m : FVec F S56x56 .f32) (x6 : Vec F S96x32 .f32) (x7 : Vec F S32x32 .f32) (x8 : Vec F S32x1 .f32) (x9 : Vec F S11x4x11 .f32) : FVec F S1x32x56x56 .f32 :=
  k0_pay98 (k0_pay28 x0) m (sums (valueBands x0 x6) (maskBands m) (weights (logits x0 x6 m x9)) k0_pay96 11) x7 x8

/-- The stores of the keys fill their row bands. -/
theorem key_rows (y : FVec F S32x66x66 .f32) : View.canon (Val := Elt F) (s := S11x32x3712) (e := .f32) [
    ⟨Rect.unit (s := S11x32x3712) ![10, 0, 0] ![1, 32, 3712] inb_S11x32x3712_S1x32x3712_10_0_0, k0_pay87 (k0_pay50 y)⟩,
    ⟨Rect.unit (s := S11x32x3712) ![9, 0, 0] ![1, 32, 3712] inb_S11x32x3712_S1x32x3712_9_0_0, k0_pay84 (k0_pay50 y)⟩,
    ⟨Rect.unit (s := S11x32x3712) ![8, 0, 0] ![1, 32, 3712] inb_S11x32x3712_S1x32x3712_8_0_0, k0_pay80 (k0_pay50 y)⟩,
    ⟨Rect.unit (s := S11x32x3712) ![7, 0, 0] ![1, 32, 3712] inb_S11x32x3712_S1x32x3712_7_0_0, k0_pay77 (k0_pay50 y)⟩,
    ⟨Rect.unit (s := S11x32x3712) ![6, 0, 0] ![1, 32, 3712] inb_S11x32x3712_S1x32x3712_6_0_0, k0_pay74 (k0_pay50 y)⟩,
    ⟨Rect.unit (s := S11x32x3712) ![5, 0, 0] ![1, 32, 3712] inb_S11x32x3712_S1x32x3712_5_0_0, k0_pay70 (k0_pay50 y)⟩,
    ⟨Rect.unit (s := S11x32x3712) ![4, 0, 0] ![1, 32, 3712] inb_S11x32x3712_S1x32x3712_4_0_0, k0_pay67 (k0_pay50 y)⟩,
    ⟨Rect.unit (s := S11x32x3712) ![3, 0, 0] ![1, 32, 3712] inb_S11x32x3712_S1x32x3712_3_0_0, k0_pay63 (k0_pay50 y)⟩,
    ⟨Rect.unit (s := S11x32x3712) ![2, 0, 0] ![1, 32, 3712] inb_S11x32x3712_S1x32x3712_2_0_0, k0_pay60 (k0_pay50 y)⟩,
    ⟨Rect.unit (s := S11x32x3712) ![1, 0, 0] ![1, 32, 3712] inb_S11x32x3712_S1x32x3712_1_0_0, k0_pay57 (k0_pay50 y)⟩,
    ⟨Rect.unit (s := S11x32x3712) ![0, 0, 0] ![1, 32, 3712] inb_S11x32x3712_S1x32x3712_0_0_0, k0_pay53 y⟩] = bands (k0_pay50 y) := by
  refine canon_rows _ _ ?_
  refine canon_row _ 10 _ _ _ (row_piece _ 10 660 rfl _ _ _) ?_
  refine canon_row _ 9 _ _ _ (row_piece _ 9 594 rfl _ _ _) ?_
  refine canon_row _ 8 _ _ _ (row_piece _ 8 528 rfl _ _ _) ?_
  refine canon_row _ 7 _ _ _ (row_piece _ 7 462 rfl _ _ _) ?_
  refine canon_row _ 6 _ _ _ (row_piece _ 6 396 rfl _ _ _) ?_
  refine canon_row _ 5 _ _ _ (row_piece _ 5 330 rfl _ _ _) ?_
  refine canon_row _ 4 _ _ _ (row_piece _ 4 264 rfl _ _ _) ?_
  refine canon_row _ 3 _ _ _ (row_piece _ 3 198 rfl _ _ _) ?_
  refine canon_row _ 2 _ _ _ (row_piece _ 2 132 rfl _ _ _) ?_
  refine canon_row _ 1 _ _ _ (row_piece _ 1 66 rfl _ _ _) ?_
  refine canon_row _ 0 _ _ _ (row_piece _ 0 0 rfl _ _ _) ?_
  exact canon_none _

/-- The stores of the values fill theirs. -/
theorem value_rows (y : FVec F S96x3136 .f32) : View.canon (Val := Elt F) (s := S11x32x3712) (e := .f32) [
    ⟨Rect.unit (s := S11x32x3712) ![10, 0, 0] ![1, 32, 3712] inb_S11x32x3712_S1x32x3712_10_0_0, k0_pay88 (k0_pay51 y)⟩,
    ⟨Rect.unit (s := S11x32x3712) ![9, 0, 0] ![1, 32, 3712] inb_S11x32x3712_S1x32x3712_9_0_0, k0_pay85 (k0_pay51 y)⟩,
    ⟨Rect.unit (s := S11x32x3712) ![8, 0, 0] ![1, 32, 3712] inb_S11x32x3712_S1x32x3712_8_0_0, k0_pay82 (k0_pay81 (k0_pay51 y))⟩,
    ⟨Rect.unit (s := S11x32x3712) ![7, 0, 0] ![1, 32, 3712] inb_S11x32x3712_S1x32x3712_7_0_0, k0_pay78 (k0_pay51 y)⟩,
    ⟨Rect.unit (s := S11x32x3712) ![6, 0, 0] ![1, 32, 3712] inb_S11x32x3712_S1x32x3712_6_0_0, k0_pay75 (k0_pay51 y)⟩,
    ⟨Rect.unit (s := S11x32x3712) ![5, 0, 0] ![1, 32, 3712] inb_S11x32x3712_S1x32x3712_5_0_0, k0_pay71 (k0_pay51 y)⟩,
    ⟨Rect.unit (s := S11x32x3712) ![4, 0, 0] ![1, 32, 3712] inb_S11x32x3712_S1x32x3712_4_0_0, k0_pay68 (k0_pay51 y)⟩,
    ⟨Rect.unit (s := S11x32x3712) ![3, 0, 0] ![1, 32, 3712] inb_S11x32x3712_S1x32x3712_3_0_0, k0_pay65 (k0_pay64 (k0_pay51 y))⟩,
    ⟨Rect.unit (s := S11x32x3712) ![2, 0, 0] ![1, 32, 3712] inb_S11x32x3712_S1x32x3712_2_0_0, k0_pay61 (k0_pay51 y)⟩,
    ⟨Rect.unit (s := S11x32x3712) ![1, 0, 0] ![1, 32, 3712] inb_S11x32x3712_S1x32x3712_1_0_0, k0_pay58 (k0_pay51 y)⟩,
    ⟨Rect.unit (s := S11x32x3712) ![0, 0, 0] ![1, 32, 3712] inb_S11x32x3712_S1x32x3712_0_0_0, k0_pay54 y⟩] = bands (k0_pay51 y) := by
  unfold k0_pay82 k0_pay81 k0_pay65 k0_pay64
  refine canon_rows _ _ ?_
  refine canon_row _ 10 _ _ _ (row_piece _ 10 660 rfl _ _ _) ?_
  refine canon_row _ 9 _ _ _ (row_piece _ 9 594 rfl _ _ _) ?_
  refine canon_row _ 8 _ _ _ (row_piece _ 8 528 rfl _ _ _) ?_
  refine canon_row _ 7 _ _ _ (row_piece _ 7 462 rfl _ _ _) ?_
  refine canon_row _ 6 _ _ _ (row_piece _ 6 396 rfl _ _ _) ?_
  refine canon_row _ 5 _ _ _ (row_piece _ 5 330 rfl _ _ _) ?_
  refine canon_row _ 4 _ _ _ (row_piece _ 4 264 rfl _ _ _) ?_
  refine canon_row _ 3 _ _ _ (row_piece _ 3 198 rfl _ _ _) ?_
  refine canon_row _ 2 _ _ _ (row_piece _ 2 132 rfl _ _ _) ?_
  refine canon_row _ 1 _ _ _ (row_piece _ 1 66 rfl _ _ _) ?_
  refine canon_row _ 0 _ _ _ (row_piece _ 0 0 rfl _ _ _) ?_
  exact canon_none _

/-- The stores of the mask fill theirs. -/
theorem mask_rows (y : FVec F S56x56 .f32) : View.canon (Val := Elt F) (s := S11x1x3712) (e := .f32) [
    ⟨Rect.unit (s := S11x1x3712) ![10, 0, 0] ![1, 1, 3712] inb_S11x1x3712_S1x1x3712_10_0_0, k0_pay90 (k0_pay89 (k0_pay52 y))⟩,
    ⟨Rect.unit (s := S11x1x3712) ![9, 0, 0] ![1, 1, 3712] inb_S11x1x3712_S1x1x3712_9_0_0, k0_pay86 (k0_pay52 y)⟩,
    ⟨Rect.unit (s := S11x1x3712) ![8, 0, 0] ![1, 1, 3712] inb_S11x1x3712_S1x1x3712_8_0_0, k0_pay83 (k0_pay52 y)⟩,
    ⟨Rect.unit (s := S11x1x3712) ![7, 0, 0] ![1, 1, 3712] inb_S11x1x3712_S1x1x3712_7_0_0, k0_pay79 (k0_pay52 y)⟩,
    ⟨Rect.unit (s := S11x1x3712) ![6, 0, 0] ![1, 1, 3712] inb_S11x1x3712_S1x1x3712_6_0_0, k0_pay76 (k0_pay52 y)⟩,
    ⟨Rect.unit (s := S11x1x3712) ![5, 0, 0] ![1, 1, 3712] inb_S11x1x3712_S1x1x3712_5_0_0, k0_pay73 (k0_pay72 (k0_pay52 y))⟩,
    ⟨Rect.unit (s := S11x1x3712) ![4, 0, 0] ![1, 1, 3712] inb_S11x1x3712_S1x1x3712_4_0_0, k0_pay69 (k0_pay52 y)⟩,
    ⟨Rect.unit (s := S11x1x3712) ![3, 0, 0] ![1, 1, 3712] inb_S11x1x3712_S1x1x3712_3_0_0, k0_pay66 (k0_pay52 y)⟩,
    ⟨Rect.unit (s := S11x1x3712) ![2, 0, 0] ![1, 1, 3712] inb_S11x1x3712_S1x1x3712_2_0_0, k0_pay62 (k0_pay52 y)⟩,
    ⟨Rect.unit (s := S11x1x3712) ![1, 0, 0] ![1, 1, 3712] inb_S11x1x3712_S1x1x3712_1_0_0, k0_pay59 (k0_pay52 y)⟩,
    ⟨Rect.unit (s := S11x1x3712) ![0, 0, 0] ![1, 1, 3712] inb_S11x1x3712_S1x1x3712_0_0_0, k0_pay56 (k0_pay55 y)⟩] = bands (k0_pay52 y) := by
  unfold k0_pay90 k0_pay89 k0_pay73 k0_pay72 k0_pay56 k0_pay55
  refine canon_rows _ _ ?_
  refine canon_row _ 10 _ _ _ (row_piece _ 10 660 rfl _ _ _) ?_
  refine canon_row _ 9 _ _ _ (row_piece _ 9 594 rfl _ _ _) ?_
  refine canon_row _ 8 _ _ _ (row_piece _ 8 528 rfl _ _ _) ?_
  refine canon_row _ 7 _ _ _ (row_piece _ 7 462 rfl _ _ _) ?_
  refine canon_row _ 6 _ _ _ (row_piece _ 6 396 rfl _ _ _) ?_
  refine canon_row _ 5 _ _ _ (row_piece _ 5 330 rfl _ _ _) ?_
  refine canon_row _ 4 _ _ _ (row_piece _ 4 264 rfl _ _ _) ?_
  refine canon_row _ 3 _ _ _ (row_piece _ 3 198 rfl _ _ _) ?_
  refine canon_row _ 2 _ _ _ (row_piece _ 2 132 rfl _ _ _) ?_
  refine canon_row _ 1 _ _ _ (row_piece _ 1 66 rfl _ _ _) ?_
  refine canon_row _ 0 _ _ _ (row_piece _ 0 0 rfl _ _ _) ?_
  exact canon_none _

theorem out10_eq : out0_A_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 = featOut x0 (maskBit x0 x1 x2 x3 x4 x5) x6 x7 x8 x9 := by
  unfold out0_A_10
  rw [View.read_writes_eq_canon _ _ _ (cover0_A_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9)]
  unfold kernelRun0_A
  dsimp only
  sl_unfold_words
  have ex0 : View.ld x0 (Rect.unit ![0, 0, 0, 0] ![1, 32, 56, 56] inb_S1x32x56x56_S1x32x56x56_0_0_0_0) = x0 := View.ld_unit_zero hz4 _ _
  have ex1 : View.ld x1 (Rect.unit ![0, 0, 0] ![9, 32, 32] inb_S9x32x32_S9x32x32_0_0_0) = x1 := View.ld_unit_zero hz3 _ _
  have ex2 : View.ld x2 (Rect.unit ![0, 0] ![32, 1] inb_S32x1_S32x1_0_0) = x2 := View.ld_unit_zero hz2 _ _
  have ex3 : View.ld x3 (Rect.unit ![0, 0] ![32, 1] inb_S32x1_S32x1_0_0) = x3 := View.ld_unit_zero hz2 _ _
  have ex4 : View.ld x4 (Rect.unit ![0, 0, 0] ![9, 32, 32] inb_S9x32x32_S9x32x32_0_0_0) = x4 := View.ld_unit_zero hz3 _ _
  have ex5 : View.ld x5 (Rect.unit ![0, 0, 0] ![9, 1, 32] inb_S9x1x32_S9x1x32_0_0_0) = x5 := View.ld_unit_zero hz3 _ _
  have ex6 : View.ld x6 (Rect.unit ![0, 0] ![96, 32] inb_S96x32_S96x32_0_0) = x6 := View.ld_unit_zero hz2 _ _
  have ex7 : View.ld x7 (Rect.unit ![0, 0] ![32, 32] inb_S32x32_S32x32_0_0) = x7 := View.ld_unit_zero hz2 _ _
  have ex8 : View.ld x8 (Rect.unit ![0, 0] ![32, 1] inb_S32x1_S32x1_0_0) = x8 := View.ld_unit_zero hz2 _ _
  simp only [View.readAt_eq_ld, harg1.read_unread, harg2.read_unread, harg3.read_unread, harg4.read_unread, harg5.read_unread, harg6.read_unread, harg7.read_unread, harg8.read_unread, harg9.read_unread, harg10.read_unread, harg13.read_unread, ex0, ex1, ex2, ex3, ex4, ex5, ex6, ex7, ex8]
  refine (View.canon_unit_zero hz4 _ _).trans ?_
  unfold featOut weights logits keyBands valueBands maskBands maskBit act2 act1
  generalize k0_pay35 (F := F) _ _ _ _ _ _ _ = y1
  generalize k0_pay36 (F := F) _ _ _ _ _ _ _ = y2
  generalize k0_pay38 (F := F) _ _ _ _ _ = y3
  generalize k0_pay46 (F := F) _ _ _ _ _ = y4
  generalize k0_pay47 (F := F) _ _ = y5
  generalize k0_pay48 (F := F) _ _ = y6
  generalize k0_pay49 (F := F) _ _ = y7
  generalize k0_pay28 (F := F) _ = y8
  rw [st_eq (hn := show Scf.trips 0#32 (Scalar.addi 0#32 11#32) 1#32 ≤ 11 by decide)]
  simp only [View.read_writes_junk_eq_canon, key_rows, value_rows, mask_rows]
  rw [show Scf.trips 0#32 (Scalar.addi 0#32 11#32) 1#32 = 11 by decide, View.canon_unit_zero hz3, View.ld_unit_zero hz3]

end Cert.KernelIdeal.Gen
end
-- ==== Proof.KPointMask.lean ====
/- What one grid point stores as its mask, and the zero-one mask its attention uses, read at an index. -/
module

public import proofs.«01_k».proof.Proof.KMask
public import proofs.«01_k».proof.Proof.KPoint

@[expose] public section

noncomputable section

namespace Cert.KernelIdeal.Gen
open Cert.Spec Idealize.ShloMosaic Cert.KernelIdeal

variable (x0 : Vec Ideal S1x32x56x56 .f32) (x1 : Vec Ideal S9x32x32 .f32) (x2 x3 : Vec Ideal S32x1 .f32) (x4 : Vec Ideal S9x32x32 .f32) (x5 : Vec Ideal S9x1x32 .f32)
  (X : ℕ → ℕ → ℕ → EReal) (W1 W2 W3 : ℕ → ℕ → ℕ → ℕ → EReal) (S B : ℕ → EReal)
  (hx : ∀ a c r q, x0 (ix4 a c r q) = X c r q)
  (h1 : ∀ t o k, x1 (ix3 t o k) = W1 o k (t.val / 3) (t.val % 3))
  (hs : ∀ c a, x2 (ix2 c a) = S c) (hb : ∀ c a, x3 (ix2 c a) = B c)
  (h2 : ∀ t o k, x4 (ix3 t o k) = W2 o k (t.val / 3) (t.val % 3))
  (h3 : ∀ t o k, x5 (ix3 t o k) = W3 o k (t.val / 3) (t.val % 3))

include hx h1 hs hb h2 h3

/-- The mask before it is reshaped. -/
theorem mask_flat_at (a : Fin 1) (l : Fin 3136) :
    k0_pay44 (F := Ideal) (k0_pay39 x5) (k0_pay40 (act2 x0 x1 x2 x3 x4)) (k0_pay41 (act2 x0 x1 x2 x3 x4) x5) (k0_pay42 (act2 x0 x1 x2 x3 x4)) (k0_pay43 x5) (ix2 a l)
      = maskVal X W1 W2 W3 (fun c y => y * S c + B c) (l.val / 56) (l.val % 56) := by
  refine pay44_at x5 (act2 x0 x1 x2 x3 x4) (fun c h w => max (conv3 W2 (fun c h w => max (conv3 W1 X c h w * S c + B c) 0) c h w) 0) W3 (fun c l => ?_) h3 a l
  exact pay38_at x4 (act1 x0 x1 x2 x3) (fun c h w => max (conv3 W1 X c h w * S c + B c) 0) W2
    (fun c r q => pay35_at x1 x0 x2 x3 X W1 S B hx h1 hs hb c r q) h2 c l

/-- The mask that a point stores. -/
theorem maskOut_at (a b : Fin 1) (h w : Fin 56) :
    maskOut x0 x1 x2 x3 x4 x5 (ix4 a b h w) = maskVal X W1 W2 W3 (fun c y => y * S c + B c) h w := by
  have key := mask_flat_at x0 x1 x2 x3 x4 x5 X W1 W2 W3 S B hx h1 hs hb h2 h3
  unfold maskOut k0_pay45
  generalize k0_pay44 (F := Ideal) _ _ _ _ _ = y at *
  pointwise []
  rw [key]
  have := h.2; have := w.2
  congr 1 <;> simp <;> omega

/-- The zero-one mask. -/
theorem maskBit_at (h w : Fin 56) :
    maskBit x0 x1 x2 x3 x4 x5 (ix2 h w) = bit (maskVal X W1 W2 W3 (fun c y => y * S c + B c) h w) := by
  have key := mask_flat_at x0 x1 x2 x3 x4 x5 X W1 W2 W3 S B hx h1 hs hb h2 h3
  unfold maskBit k0_pay46
  generalize k0_pay44 (F := Ideal) _ _ _ _ _ = y at *
  pointwise []
  rw [key]
  have e : ((h.val * 56 + w.val) / 56) = h.val ∧ ((h.val * 56 + w.val) % 56) = w.val := by have := h.2; have := w.2; omega
  show (((BitVec.setWidth 32 (BitVec.ofBool (decide (_ < maskVal X W1 W2 W3 _ ((h.val * 56 + w.val) / 56) ((h.val * 56 + w.val) % 56))))).toInt : ℝ) : EReal) = _
  rw [e.1, e.2, bit]
  split_ifs with hc <;> simp [hc]

end Cert.KernelIdeal.Gen
end
-- ==== Proof.KAttn.lean ====
/- The two loops' steps of the windowed attention, read at an index. -/
module

public import proofs.«01_k».proof.Proof.KPoint
public import proofs.«01_k».proof.Proof.Spec

@[expose] public section

noncomputable section

namespace Cert.KernelIdeal.Gen

open Cert.Spec Idealize.ShloMosaic Idealize.ShloMosaic.TcCoe Idealize.ShloMosaic.Tactic
open Idealize.SL Idealize.SL.RA Idealize.SL.BI
open Idealize.SL.Sem

/-- The heads' indicator: channel `k` belongs to head `k / 8`. -/
theorem head_at (n : Fin 4) (k : Fin 32) : k0_pay91 (F := Ideal) (ix2 n k) = if k.val / 8 = n.val then 1 else 0 := by
  pointwise [k0_pay91]
  have hb : ∀ (n : Fin 4) (k : Fin 32), (BitVec.setWidth 32
        (IntOp.cmpi CmpIPredicate.eq
          (Scalar.select
            (IntOp.andi
              (IntOp.cmpi CmpIPredicate.ne
                (IntOp.subi (BitVec.setWidth 32 (IntOp.cmpi CmpIPredicate.sgt (BitVec.ofNat 32 k.val) 0#32))
                  (BitVec.setWidth 32 (IntOp.cmpi CmpIPredicate.slt (BitVec.ofNat 32 k.val) 0#32)))
                (Scalar.subi (Scalar.extui (Scalar.cmpi CmpIPredicate.sgt 8#32 0#32))
                  (Scalar.extui (Scalar.cmpi CmpIPredicate.slt 8#32 0#32))))
              (IntOp.cmpi CmpIPredicate.ne (IntOp.remsi ArithUnit.vector (BitVec.ofNat 32 k.val) 8#32) 0#32))
            (IntOp.subi (IntOp.divsi ArithUnit.vector (BitVec.ofNat 32 k.val) 8#32) 1#32)
            (IntOp.divsi ArithUnit.vector (BitVec.ofNat 32 k.val) 8#32))
          (BitVec.ofNat 32 n.val))) = if k.val / 8 = n.val then 1#32 else 0#32 := by
    decide +kernel
  rw [hb]
  split_ifs <;> show ((BitVec.toInt _ : ℝ) : EReal) = _ <;> simp

/-- One shift's logits of one row band, the head's indicator `y` any array. -/
theorem shift_at (j : ℕ) (y : FVec Ideal S4x32 .f32) (v A M P)  (n : Fin 4) (p : Fin 3696) (h1 h2 h3)
    (q K : ℕ → ℕ → EReal) (m : ℕ → EReal) (B : ℕ → ℕ → EReal)
    (hy : ∀ (n : Fin 4) (k : Fin 32), y (ix2 n k) = if k.val / 8 = n.val then 1 else 0)
    (hv : ∀ (c : Fin 32) (p : Fin 3696), v (ix2 c p) = q c p)
    (hA : ∀ (c : Fin 32) (p : Fin 3712), A (ix3 0 c p) = K c p) (hM : ∀ p : Fin 3712, M (ix3 0 0 p) = m p)
    (hP : ∀ (n : Fin 4) (j : Fin 11), P (ix3 0 n j) = B n j) :
    addf (F := Ideal) (mulf (matmul dot_S4x32_S32x3696_S4x3696_1_0_0_1_n_n none y (mulf v (extractStridedSlice S32x3696 ![0, j] (k0_pay1 A) h1)) (constant S4x3696 .f32 0x00000000#32))
      (broadcastTo S4x3696 (mulf (extractStridedSlice S1x3696 ![0, j] (k0_pay2 M) h2) (broadcast S1x3696 (Scalar.ofBits .f32 0x3EB504F3#32))) broadcasts_S1x3696_S4x3696))
      (broadcastTo S4x3696 (shapeCast S4x1 (shapeCast S4 (extractStridedSlice S4x1 ![0, j] (k0_pay3 P) h3) shapeCasts_S4x1_S4) shapeCasts_S4_S4x1) broadcasts_S4x1_S4x3696) (ix2 n p)
      = bandScore q K m B n p j := by
  pointwise [k0_pay1, k0_pay2, k0_pay3]
  simp only [hy, hv, hA, hM, hP]
  rfl

/-- The eleven shifts' planes, stacked: row `4 * j + n` is plane `j`'s row `n`. -/
theorem stack_at (y0 y1 y2 y3 y4 y5 y6 y7 y8 y9 y10 y11 : FVec Ideal S4x3696 .f32) (G : ℕ → ℕ → ℕ → EReal)
    (s0 : ∀ n p, y0 (ix2 n p) = G n.val p.val 0) (s1 : ∀ n p, y1 (ix2 n p) = G n.val p.val 1)
    (s2 : ∀ n p, y2 (ix2 n p) = G n.val p.val 2) (s3 : ∀ n p, y3 (ix2 n p) = G n.val p.val 3)
    (s4 : ∀ n p, y4 (ix2 n p) = G n.val p.val 4) (s5 : ∀ n p, y5 (ix2 n p) = G n.val p.val 5)
    (s6 : ∀ n p, y6 (ix2 n p) = G n.val p.val 6) (s7 : ∀ n p, y7 (ix2 n p) = G n.val p.val 7)
    (s8 : ∀ n p, y8 (ix2 n p) = G n.val p.val 8) (s9 : ∀ n p, y9 (ix2 n p) = G n.val p.val 9)
    (s10 : ∀ n p, (y10 (ix2 n p) + y11 (ix2 n p) : EReal) = G n.val p.val 10) (a : Fin 44) (p : Fin 3696) :
    k0_pay92 (F := Ideal) y0 y1 y2 y3 y4 y5 y6 y7 y8 y9 y10 y11 (ix3 0 a p) = G (a.val % 4) p (a.val / 4) := by
  pointwise [k0_pay92]
  simp only [s0, s1, s2, s3, s4, s5, s6, s7, s8, s9, s10]
  have ha := a.2
  generalize hj : a.val / 4 = j
  have hj11 : j < 11 := by omega
  interval_cases j <;> simp

/-- One row band's logits. -/
theorem scoreRow_at (v : FVec Ideal S32x3696 .f32) (A : Vec Ideal S1x32x3712 .f32) (M : Vec Ideal S1x1x3712 .f32) (P : Vec Ideal S1x4x11 .f32)
    (q K : ℕ → ℕ → EReal) (m : ℕ → EReal) (B : ℕ → ℕ → EReal)
    (hv : ∀ (c : Fin 32) (p : Fin 3696), v (ix2 c p) = q c p)
    (hA : ∀ (c : Fin 32) (p : Fin 3712), A (ix3 0 c p) = K c p) (hM : ∀ p : Fin 3712, M (ix3 0 0 p) = m p)
    (hP : ∀ (n : Fin 4) (j : Fin 11), P (ix3 0 n j) = B n j) (a : Fin 44) (p : Fin 3696) :
    scoreRow (F := Ideal) v A M P (ix3 0 a p) = bandScore q K m B (a.val % 4) p (a.val / 4) := by
  unfold scoreRow
  have hy := head_at
  generalize k0_pay91 (F := Ideal) = y at *
  refine stack_at _ _ _ _ _ _ _ _ _ _ _ _ (bandScore q K m B) ?_ ?_ ?_ ?_ ?_ ?_ ?_ ?_ ?_ ?_ ?_ a p
  · exact fun n p => shift_at 0 y v A M P n p _ _ _ q K m B hy hv hA hM hP
  · exact fun n p => shift_at 1 y v A M P n p _ _ _ q K m B hy hv hA hM hP
  · exact fun n p => shift_at 2 y v A M P n p _ _ _ q K m B hy hv hA hM hP
  · exact fun n p => shift_at 3 y v A M P n p _ _ _ q K m B hy hv hA hM hP
  · exact fun n p => shift_at 4 y v A M P n p _ _ _ q K m B hy hv hA hM hP
  · exact fun n p => shift_at 5 y v A M P n p _ _ _ q K m B hy hv hA hM hP
  · exact fun n p => shift_at 6 y v A M P n p _ _ _ q K m B hy hv hA hM hP
  · exact fun n p => shift_at 7 y v A M P n p _ _ _ q K m B hy hv hA hM hP
  · exact fun n p => shift_at 8 y v A M P n p _ _ _ q K m B hy hv hA hM hP
  · exact fun n p => shift_at 9 y v A M P n p _ _ _ q K m B hy hv hA hM hP
  · exact fun n p => shift_at 10 y v A M P n p _ _ _ q K m B hy hv hA hM hP

theorem sum11 (f : ℕ → EReal) : ∑ j : Fin 11, f j = f 0 + f 1 + f 2 + f 3 + f 4 + f 5 + f 6 + f 7 + f 8 + f 9 + f 10 := by
  rw [Fin.sum_univ_eq_sum_range]
  simp [Finset.sum_range_succ]

/-- One row band's weighted values, added to what the earlier bands gave. -/
theorem sumRow_at (acc : FVec Ideal S4x8x3696 .f32) (A : Vec Ideal S1x32x3712 .f32) (M : Vec Ideal S1x1x3712 .f32) (W : Vec Ideal S1x44x3696 .f32)
    (V : ℕ → ℕ → EReal) (m : ℕ → EReal) (P : ℕ → ℕ → ℕ → EReal)
    (hA : ∀ (c : Fin 32) (p : Fin 3712), A (ix3 0 c p) = V c p) (hM : ∀ p : Fin 3712, M (ix3 0 0 p) = m p)
    (p : Fin 3696) (hW : ∀ (a : Fin 44), W (ix3 0 a p) = P (a.val % 4) p (a.val / 4)) (n : Fin 4) (e : Fin 8) :
    sumRow (F := Ideal) acc A M W (ix3 n e p) = acc (ix3 n e p) + bandSum V m P (n.val * 8 + e.val) p := by
  unfold sumRow bandSum
  pointwise [k0_pay20, k0_pay21, k0_pay22, k0_pay23, k0_pay24, k0_pay25, k0_pay26, k0_pay27, k0_pay97]
  have hn := n.2
  have he := e.2
  have e1 : (n.val * 8 + e.val) / 8 = n.val := by omega
  rw [sum11 (fun j => V (n.val * 8 + e.val) (j + p.val) * (P ((n.val * 8 + e.val) / 8) p.val j * m (j + p.val)))]
  simp only [hA, hM, hW, e1, zero_add, show n.val % 4 = n.val by omega, show n.val / 4 = 0 by omega,
    show (4 + n.val) % 4 = n.val by omega, show (4 + n.val) / 4 = 1 by omega, show (8 + n.val) % 4 = n.val by omega, show (8 + n.val) / 4 = 2 by omega, show (12 + n.val) % 4 = n.val by omega, show (12 + n.val) / 4 = 3 by omega, show (16 + n.val) % 4 = n.val by omega, show (16 + n.val) / 4 = 4 by omega, show (20 + n.val) % 4 = n.val by omega, show (20 + n.val) / 4 = 5 by omega, show (24 + n.val) % 4 = n.val by omega, show (24 + n.val) / 4 = 6 by omega, show (28 + n.val) % 4 = n.val by omega, show (28 + n.val) / 4 = 7 by omega, show (32 + n.val) % 4 = n.val by omega, show (32 + n.val) / 4 = 8 by omega, show (36 + n.val) % 4 = n.val by omega, show (36 + n.val) / 4 = 9 by omega, show (40 + n.val) % 4 = n.val by omega, show (40 + n.val) / 4 = 10 by omega, add_assoc]

end Cert.KernelIdeal.Gen

end
-- ==== Proof.KFeat.lean ====
/- What one grid point stores as its feature map, read at an index. -/
module

public import proofs.«01_k».proof.Proof.KAttn

@[expose] public section

noncomputable section

namespace Cert.KernelIdeal.Gen

open Cert.Spec Idealize.ShloMosaic Idealize.ShloMosaic.TcCoe Idealize.ShloMosaic.Tactic
open Idealize.SL Idealize.SL.RA Idealize.SL.BI
open Idealize.SL.Sem

/-- The 1×1 convolution to 96 channels, flat. -/
theorem pay47_at (v1 : FVec Ideal S32x56x56 .f32) (x6 : Vec Ideal S96x32 .f32) (X : ℕ → ℕ → ℕ → EReal) (W : ℕ → ℕ → EReal)
    (hx : ∀ c h w, v1 (ix3 c h w) = X c h w) (hw : ∀ o k, x6 (ix2 o k) = W o k) (o : Fin 96) (l : Fin 3136) :
    k0_pay47 (F := Ideal) v1 x6 (ix2 o l) = proj W X o (l.val / 56) (l.val % 56) := by
  pointwise [k0_pay47]
  simp only [hx, hw]
  rfl

/-- The queries, each row followed by ten zeros, flat. -/
theorem pay48_at (v1 : FVec Ideal S32x56x56 .f32) (x6 : Vec Ideal S96x32 .f32) (Y : ℕ → ℕ → ℕ → EReal)
    (hy : ∀ (o : Fin 96) (l : Fin 3136), k0_pay47 (F := Ideal) v1 x6 (ix2 o l) = Y o (l.val / 56) (l.val % 56)) (c : Fin 32) (p : Fin 3696) :
    k0_pay48 (F := Ideal) v1 x6 (ix2 c p) = if p.val % 66 < 56 then Y c (p.val / 66) (p.val % 66) else 0 := by
  unfold k0_pay48
  generalize k0_pay47 (F := Ideal) v1 x6 = y at *
  pointwise []
  simp only [hy]
  have e : ∀ a b : ℕ, b < 56 → (a * 56 + b) / 56 = a ∧ (a * 56 + b) % 56 = b := by omega
  split_ifs with h
  · rw [(e _ _ h).1, (e _ _ h).2]
  · simp

/-- The keys with their border, flat, and the zeros after them. -/
theorem pay50_at (v1 : FVec Ideal S32x56x56 .f32) (x6 : Vec Ideal S96x32 .f32) (Y : ℕ → ℕ → ℕ → EReal)
    (hy : ∀ (o : Fin 96) (l : Fin 3136), k0_pay47 (F := Ideal) v1 x6 (ix2 o l) = Y o (l.val / 56) (l.val % 56)) (c : Fin 32) (p : Fin 4372) :
    k0_pay50 (F := Ideal) (k0_pay49 v1 x6) (ix2 c p) = flatPad (Y (32 + c)) p := by
  unfold k0_pay49
  generalize k0_pay47 (F := Ideal) v1 x6 = y at *
  pointwise [k0_pay50]
  simp only [hy, flatPad, padf]
  have := p.2
  have e : ∀ a b : ℕ, b < 56 → (a * 56 + b) / 56 = a ∧ (a * 56 + b) % 56 = b := by omega
  split_ifs <;> first | omega | (rw [(e _ _ (by omega)).1, (e _ _ (by omega)).2]) | simp

/-- The values likewise. -/
theorem pay51_at (y : FVec Ideal S96x3136 .f32) (Y : ℕ → ℕ → ℕ → EReal)
    (hy : ∀ (o : Fin 96) (l : Fin 3136), y (ix2 o l) = Y o (l.val / 56) (l.val % 56)) (c : Fin 32) (p : Fin 4372) :
    k0_pay51 (F := Ideal) y (ix2 c p) = flatPad (Y (64 + c)) p := by
  pointwise [k0_pay51]
  simp only [hy, flatPad, padf]
  have := p.2
  have e : ∀ a b : ℕ, b < 56 → (a * 56 + b) / 56 = a ∧ (a * 56 + b) % 56 = b := by omega
  split_ifs <;> first | omega | (rw [(e _ _ (by omega)).1, (e _ _ (by omega)).2]) | simp

/-- The mask likewise. -/
theorem pay52_at (m : FVec Ideal S56x56 .f32) (M : ℕ → ℕ → EReal) (hm : ∀ h w, m (ix2 h w) = M h w) (c : Fin 1) (p : Fin 4372) :
    k0_pay52 (F := Ideal) m (ix2 c p) = flatPad M p := by
  pointwise [k0_pay52]
  simp only [hm, flatPad, padf]
  have := p.2
  split_ifs <;> first | omega | rfl | simp

/-- At the flat position of the pixel `(h, w)` in the band of row `r`, shifted by `j`, stands the padded image at `(h + r, w + j)`. -/
theorem flatPad_shift (f : ℕ → ℕ → EReal) (h w r j : ℕ) (hh : h < 56) (hw : w < 56) (hr : r < 11) (hj : j < 11) :
    flatPad f (66 * r + (j + (66 * h + w))) = padf 5 56 f (h + r) (w + j) := by
  unfold flatPad
  rw [if_pos (by omega), show (66 * r + (j + (66 * h + w))) / 66 = h + r by omega, show (66 * r + (j + (66 * h + w))) % 66 = w + j by omega]

/-- The logits of one point. -/
theorem logits_at (x0 : Vec Ideal S1x32x56x56 .f32) (x6 : Vec Ideal S96x32 .f32) (m : FVec Ideal S56x56 .f32) (x9 : Vec Ideal S11x4x11 .f32)
    (X : ℕ → ℕ → ℕ → EReal) (W : ℕ → ℕ → EReal) (M : ℕ → ℕ → EReal) (B : ℕ → ℕ → ℕ → EReal)
    (hx : ∀ a c h w, x0 (ix4 a c h w) = X c h w) (hw : ∀ o k, x6 (ix2 o k) = W o k) (hm : ∀ h w, m (ix2 h w) = M h w)
    (hB : ∀ r n j, x9 (ix3 r n j) = B n r j) (r : Fin 11) (a : Fin 44) (h w : Fin 56) :
    logits (F := Ideal) x0 x6 m x9 (ix3 r a ⟨66 * h.val + w.val, by omega⟩)
      = score (proj W X) (fun c => proj W X (32 + c)) M B (a.val % 4) h w r (a.val / 4) := by
  have h28 : ∀ c h w, k0_pay28 (F := Ideal) x0 (ix3 c h w) = X c h w := fun c h w => by
    pointwise [k0_pay28]
    exact hx _ _ _ _
  have h47 := pay47_at (k0_pay28 x0) x6 X W h28 hw
  have h48 := pay48_at _ _ _ h47
  have h50 := pay50_at _ _ _ h47
  have h52 := pay52_at m M hm
  unfold logits keyBands maskBands scores
  show scoreRow _ (band _ r) (band _ r) (band _ r) (ix3 0 a ⟨66 * h.val + w.val, by omega⟩) = _
  generalize k0_pay48 (F := Ideal) _ _ = q at *
  generalize k0_pay50 (F := Ideal) _ = k at *
  generalize k0_pay52 (F := Ideal) _ = mm at *
  refine (scoreRow_at q _ _ _ (fun c p => if p % 66 < 56 then proj W X c (p / 66) (p % 66) else 0)
    (fun c p => flatPad (proj W X (32 + c)) (66 * r + p)) (fun p => flatPad M (66 * r + p)) (fun n j => B n r j) h48
    (fun c p => h50 c _) (fun p => h52 0 _) (fun n j => hB r n j) a ⟨66 * h.val + w.val, by omega⟩).trans ?_
  unfold bandScore score
  have hh := h.2
  have hw' := w.2
  have ha := a.2
  dsimp only
  have e1 : (66 * h.val + w.val) / 66 = h.val := by omega
  have e2 : (66 * h.val + w.val) % 66 = w.val := by omega
  simp only [flatPad_shift _ h.val w.val r.val (a.val / 4) hh hw' r.2 (by omega), e1, e2, if_pos hw']

/-- The softmax over the 121 shifts, at one row of the stack. -/
theorem weights_at (s : Vec Ideal S11x44x3696 .f32) (p : Fin 3696) (n : ℕ) (f : ℕ → EReal)
    (hs : ∀ (r : Fin 11) (a : Fin 44), a.val % 4 = n → s (ix3 r a p) = f (r.val * 11 + a.val / 4)) (r : Fin 11) (a : Fin 44) (ha : a.val % 4 = n) :
    weights (F := Ideal) s (ix3 r a p) = weight f (r.val * 11 + a.val / 4) := by
  have hs' : ∀ (d : Fin 121) h1 h2, s (ix3 ⟨d.val / 11, h1⟩ ⟨d.val % 11 * 4 + n, h2⟩ p) = f d := fun d h1 h2 => by
    rw [hs _ _ (by show (d.val % 11 * 4 + n) % 4 = n; omega)]
    refine congrArg f ?_
    show d.val / 11 * 11 + (d.val % 11 * 4 + n) / 4 = d.val
    omega
  subst ha
  have h93 : ∀ (d : Fin 121), k0_pay93 (F := Ideal) s (ix3 d ⟨a.val % 4, by omega⟩ p) = Ideal.exp (f d - top f) := fun d => by
    pointwise [k0_pay93]
    simp only [hs']
    rfl
  unfold weights k0_pay94
  generalize k0_pay93 (F := Ideal) s = y at *
  pointwise [k0_pay95]
  simp only [h93]
  rfl

/-- The second loop's sum. -/
theorem sums_at (x15 : Vec Ideal S11x32x3712 .f32) (x16 : Vec Ideal S11x1x3712 .f32) (x13 : Vec Ideal S11x44x3696 .f32) (init : FVec Ideal S4x8x3696 .f32)
    (V : ℕ → ℕ → ℕ → EReal) (m : ℕ → ℕ → EReal) (P : ℕ → ℕ → ℕ → ℕ → EReal)
    (hV : ∀ r c p, x15 (ix3 r c p) = V r c p) (hM : ∀ r a p, x16 (ix3 r a p) = m r p)
    (p : Fin 3696) (hP : ∀ (r : Fin 11) (a : Fin 44), x13 (ix3 r a p) = P r (a.val % 4) p (a.val / 4)) (n : Fin 4) (e : Fin 8)
    (h0 : init (ix3 n e p) = 0) (k : ℕ) (hk : k ≤ 11) :
    sums (F := Ideal) x15 x16 x13 init k (ix3 n e p) = ∑ r ∈ Finset.range k, bandSum (V r) (m r) (P r) (n.val * 8 + e.val) p := by
  induction k with
  | zero => simpa [sums] using h0
  | succ k ih =>
    rw [sums, dif_pos (by omega), Finset.sum_range_succ, ← ih (by omega)]
    exact sumRow_at _ _ _ _ (V k) (m k) (P k) (fun c p => hV ⟨k, by omega⟩ c p) (fun p => hM ⟨k, by omega⟩ 0 p) p (fun a => hP ⟨k, by omega⟩ a) n e

/-- The feature map of one point. -/
theorem featOut_at (x0 : Vec Ideal S1x32x56x56 .f32) (m : FVec Ideal S56x56 .f32) (x6 : Vec Ideal S96x32 .f32) (x7 : Vec Ideal S32x32 .f32)
    (x8 : Vec Ideal S32x1 .f32) (x9 : Vec Ideal S11x4x11 .f32)
    (X : ℕ → ℕ → ℕ → EReal) (W : ℕ → ℕ → EReal) (M : ℕ → ℕ → EReal) (B : ℕ → ℕ → ℕ → EReal) (P : ℕ → ℕ → EReal) (b : ℕ → EReal)
    (hx : ∀ a c h w, x0 (ix4 a c h w) = X c h w) (hw : ∀ o k, x6 (ix2 o k) = W o k) (hm : ∀ h w, m (ix2 h w) = M h w)
    (hB : ∀ r n j, x9 (ix3 r n j) = B n r j) (hP : ∀ o k, x7 (ix2 o k) = P o k) (hb : ∀ o a, x8 (ix2 o a) = b o)
    (a : Fin 1) (c : Fin 32) (h w : Fin 56) :
    featOut (F := Ideal) x0 m x6 x7 x8 x9 (ix4 a c h w) = feat X W M B P b c h w := by
  have h28 : ∀ c h w, k0_pay28 (F := Ideal) x0 (ix3 c h w) = X c h w := fun c h w => by
    pointwise [k0_pay28]
    exact hx _ _ _ _
  have h47 := pay47_at (k0_pay28 x0) x6 X W h28 hw
  have h51 := pay51_at _ _ h47
  have h52 := pay52_at m M hm
  have hl := logits_at x0 x6 m x9 X W M B hx hw hm hB
  have hh := h.2
  have hw' := w.2
  have hs : ∀ (n : Fin 4) (e : Fin 8), sums (F := Ideal) (valueBands x0 x6) (maskBands m) (weights (logits x0 x6 m x9)) k0_pay96 11 (ix3 n e ⟨66 * h.val + w.val, by omega⟩)
      = mix (fun c => proj W X (64 + c)) M
      (fun n r j => weight (fun d => score (proj W X) (fun c => proj W X (32 + c)) M B n h w (d / 11) (d % 11)) (r * 11 + j)) (n.val * 8 + e.val) h w := fun n e => by
    refine (sums_at _ _ _ _ (fun r c p => flatPad (proj W X (64 + c)) (66 * r + p)) (fun r p => flatPad M (66 * r + p))
      (fun r n p j => weight (fun d => score (proj W X) (fun c => proj W X (32 + c)) M B n h w (d / 11) (d % 11)) (r * 11 + j))
      (fun r c p => h51 c _) (fun r a p => h52 a _) ⟨66 * h.val + w.val, by omega⟩ (fun r a => ?_) n e ?_ 11 le_rfl).trans ?_
    · refine weights_at _ _ (a.val % 4) (fun d => score (proj W X) (fun c => proj W X (32 + c)) M B (a.val % 4) h w (d / 11) (d % 11)) (fun r' a' ha' => ?_) r a rfl
      rw [hl, ha', show (r'.val * 11 + a'.val / 4) / 11 = r'.val by omega, show (r'.val * 11 + a'.val / 4) % 11 = a'.val / 4 by omega]
    · pointwise [k0_pay96]
    · rw [Finset.sum_range]
      unfold mix bandSum
      refine Finset.sum_congr rfl fun r _ => Finset.sum_congr rfl fun j _ => ?_
      dsimp only
      rw [flatPad_shift _ h w r j hh hw' r.2 j.2, flatPad_shift _ h w r j hh hw' r.2 j.2]
  unfold featOut
  generalize sums (F := Ideal) _ _ _ _ _ = y at *
  generalize k0_pay28 (F := Ideal) x0 = v at *
  pointwise [k0_pay98]
  unfold feat
  have e1 : (66 * h.val + w.val) % 66 = w.val := by omega
  have e2 : h.val * 66 + w.val = 66 * h.val + w.val := by omega
  simp only [e2, e1, dif_pos hw', h28, hm, hP, hb, hs, Nat.div_add_mod']

end Cert.KernelIdeal.Gen

end
-- ==== Proof.KArrays.lean ====
/- The two output arrays after the run: each grid point's image of the feature map and of the mask. -/
module

public import proofs.«01_k».proof.Proof.KPointMask
public import proofs.«01_k».proof.Proof.KFeat
public import Idealize.ShloMosaic.Lib.Pipeline.ValueKit.Geometry

@[expose] public section

set_option maxRecDepth 16384

noncomputable section

namespace Cert.KernelIdeal.Gen
open Cert.Spec Idealize.ShloMosaic Idealize.ShloMosaic.TcCoe Cert.KernelIdeal
open Idealize.SL.Sem

variable (m : (ℓ : Loc nD τ sig) → Buf (Elt Ideal) ℓ) (c : Dev nD)

/-- Where the blocks lie: the images and the two results one to a point, everything else whole. -/
theorem idx_all : ∀ t : Fin cfg0.N, win0_0.index t = ![t.val, 0, 0, 0] ∧ win0_1.index t = ![0, 0, 0] ∧ win0_2.index t = ![0, 0] ∧ win0_3.index t = ![0, 0]
    ∧ win0_4.index t = ![0, 0, 0] ∧ win0_5.index t = ![0, 0, 0] ∧ win0_6.index t = ![0, 0] ∧ win0_7.index t = ![0, 0] ∧ win0_8.index t = ![0, 0]
    ∧ win0_9.index t = ![0, 0, 0] ∧ win0_10.index t = ![t.val, 0, 0, 0] ∧ win0_11.index t = ![t.val, 0, 0, 0] :=
  (by decide +kernel : ∀ t : Fin grid0.N, _)

/-- The block of images at a point is the point's image. -/
theorem blk_0 (t : Fin cfg0.N) (a : Fin 1) (k : Fin 32) (h w : Fin 56) :
    iblk m c 0 t (ix4 a k h w) = V m c main_v0 (ix4 (⟨t.val, t.2⟩ : Fin 4) k h w) := by
  have e := (idx_all t).1
  unfold iblk
  blk_simp [e]
  congr 1
  obtain rfl : a = 0 := Subsingleton.elim _ _
  funext d
  apply Fin.ext
  blk_simp [e]
  fin_cases d <;> simp [ix4]

section Whole
variable (t : Fin cfg0.N)

/-- Every other input block is its whole array. -/
theorem blk_1 (y : S9x32x32.Idx) : iblk m c 1 t y = V m c main_v11 y := by
  have e := (idx_all t).2.1
  unfold iblk; blk_simp [e]; congr 1; funext d; apply Fin.ext; blk_simp [e]; fin_cases d <;> simp
theorem blk_2 (y : S32x1.Idx) : iblk m c 2 t y = V m c main_v5 y := by
  have e := (idx_all t).2.2.1
  unfold iblk; blk_simp [e]; congr 1; funext d; apply Fin.ext; blk_simp [e]; fin_cases d <;> simp
theorem blk_3 (y : S32x1.Idx) : iblk m c 3 t y = V m c main_v9 y := by
  have e := (idx_all t).2.2.2.1
  unfold iblk; blk_simp [e]; congr 1; funext d; apply Fin.ext; blk_simp [e]; fin_cases d <;> simp
theorem blk_4 (y : S9x32x32.Idx) : iblk m c 4 t y = V m c main_v13 y := by
  have e := (idx_all t).2.2.2.2.1
  unfold iblk; blk_simp [e]; congr 1; funext d; apply Fin.ext; blk_simp [e]; fin_cases d <;> simp
theorem blk_5 (y : S9x1x32.Idx) : iblk m c 5 t y = V m c main_v15 y := by
  have e := (idx_all t).2.2.2.2.2.1
  unfold iblk; blk_simp [e]; congr 1; funext d; apply Fin.ext; blk_simp [e]; fin_cases d <;> simp
theorem blk_6 (y : S96x32.Idx) : iblk m c 6 t y = V m c main_v16 y := by
  have e := (idx_all t).2.2.2.2.2.2.1
  unfold iblk; blk_simp [e]; congr 1; funext d; apply Fin.ext; blk_simp [e]; fin_cases d <;> simp
theorem blk_7 (y : S32x32.Idx) : iblk m c 7 t y = V m c main_v17 y := by
  have e := (idx_all t).2.2.2.2.2.2.2.1
  unfold iblk; blk_simp [e]; congr 1; funext d; apply Fin.ext; blk_simp [e]; fin_cases d <;> simp
theorem blk_8 (y : S32x1.Idx) : iblk m c 8 t y = V m c main_v18 y := by
  have e := (idx_all t).2.2.2.2.2.2.2.2.1
  unfold iblk; blk_simp [e]; congr 1; funext d; apply Fin.ext; blk_simp [e]; fin_cases d <;> simp
theorem blk_9 (y : S11x4x11.Idx) : iblk m c 9 t y = V m c main_v20 y := by
  have e := (idx_all t).2.2.2.2.2.2.2.2.2.1
  unfold iblk; blk_simp [e]; congr 1; funext d; apply Fin.ext; blk_simp [e]; fin_cases d <;> simp

end Whole

variable (X : ℕ → ℕ → ℕ → ℕ → EReal) (W1 W2 W3 : ℕ → ℕ → ℕ → ℕ → EReal) (S B b : ℕ → EReal) (W P : ℕ → ℕ → EReal) (E : ℕ → ℕ → ℕ → EReal)
  (hx : ∀ a k h w, V m c main_v0 (ix4 a k h w) = X a k h w)
  (h1 : ∀ t o k, V m c main_v11 (ix3 t o k) = W1 o k (t.val / 3) (t.val % 3))
  (hs : ∀ k a, V m c main_v5 (ix2 k a) = S k) (hb : ∀ k a, V m c main_v9 (ix2 k a) = B k)
  (h2 : ∀ t o k, V m c main_v13 (ix3 t o k) = W2 o k (t.val / 3) (t.val % 3))
  (h3 : ∀ t o k, V m c main_v15 (ix3 t o k) = W3 o k (t.val / 3) (t.val % 3))

include hx h1 hs hb h2 h3

/-- The array of masks. -/
theorem arr_mask (a : Fin 4) (d : Fin 1) (h w : Fin 56) :
    (dats m 0 c).arrAt 11 cfg0.N (ix4 a d h w) = maskVal (X a) W1 W2 W3 (fun c y => y * S c + B c) h w := by
  refine congrFun (g := fun i : S4x1x56x56.Idx => maskVal (X (i 0)) W1 W2 W3 (fun c y => y * S c + B c) (i 2) (i 3)) ?_ (ix4 a d h w)
  refine (dats m 0 c).arrAt_eq_of_covers 11 _ (by decide +kernel) fun t hf y => ?_
  have e := (idx_all t).2.2.2.2.2.2.2.2.2.2.2
  blk_simp [e]
  rw [after0_11]
  unfold outsAt0
  dsimp only
  rw [out11_eq]
  rw [show y = ix4 (y 0) (y 1) (y 2) (y 3) from funext fun d => by fin_cases d <;> rfl]
  exact maskOut_at _ _ _ _ _ _ (X t.val) W1 W2 W3 S B (fun a k h w => (blk_0 m c t a k h w).trans (hx _ k h w))
    (fun u o k => (blk_1 m c t _).trans (h1 u o k)) (fun k a => (blk_2 m c t _).trans (hs k a)) (fun k a => (blk_3 m c t _).trans (hb k a))
    (fun u o k => (blk_4 m c t _).trans (h2 u o k)) (fun u o k => (blk_5 m c t _).trans (h3 u o k)) (y 0) (y 1) (y 2) (y 3)

variable (hW : ∀ o k, V m c main_v16 (ix2 o k) = W o k) (hP : ∀ o k, V m c main_v17 (ix2 o k) = P o k)
  (hbb : ∀ o a, V m c main_v18 (ix2 o a) = b o) (hE : ∀ r n j, V m c main_v20 (ix3 r n j) = E r n j)
include hW hP hbb hE

/-- The array of feature maps. -/
theorem arr_feat (a : Fin 4) (d : Fin 32) (h w : Fin 56) :
    (dats m 0 c).arrAt 10 cfg0.N (ix4 a d h w)
      = feat (X a) W (fun h w => bit (maskVal (X a) W1 W2 W3 (fun c y => y * S c + B c) h w)) (fun n r j => E r n j) P b d h w := by
  refine congrFun (g := fun i : S4x32x56x56.Idx =>
    feat (X (i 0)) W (fun h w => bit (maskVal (X (i 0)) W1 W2 W3 (fun c y => y * S c + B c) h w)) (fun n r j => E r n j) P b (i 1) (i 2) (i 3)) ?_ (ix4 a d h w)
  refine (dats m 0 c).arrAt_eq_of_covers 10 _ (by decide +kernel) fun t hf y => ?_
  have e := (idx_all t).2.2.2.2.2.2.2.2.2.2.1
  blk_simp [e]
  rw [after0_10]
  unfold outsAt0
  dsimp only
  rw [out10_eq]
  rw [show y = ix4 (y 0) (y 1) (y 2) (y 3) from funext fun d => by fin_cases d <;> rfl]
  have hm := maskBit_at (iblk m c 0 t) (iblk m c 1 t) (iblk m c 2 t) (iblk m c 3 t) (iblk m c 4 t) (iblk m c 5 t) (X t.val) W1 W2 W3 S B
    (fun a k h w => (blk_0 m c t a k h w).trans (hx _ k h w))
    (fun u o k => (blk_1 m c t _).trans (h1 u o k)) (fun k a => (blk_2 m c t _).trans (hs k a)) (fun k a => (blk_3 m c t _).trans (hb k a))
    (fun u o k => (blk_4 m c t _).trans (h2 u o k)) (fun u o k => (blk_5 m c t _).trans (h3 u o k))
  exact featOut_at _ _ _ _ _ _ (X t.val) W (fun h w => bit (maskVal (X t.val) W1 W2 W3 (fun c y => y * S c + B c) h w)) (fun n r j => E r n j) P b
    (fun a k h w => (blk_0 m c t a k h w).trans (hx _ k h w)) (fun o k => (blk_6 m c t _).trans (hW o k)) hm
    (fun r n j => (blk_9 m c t _).trans (hE r n j)) (fun o k => (blk_7 m c t _).trans (hP o k)) (fun o a => (blk_8 m c t _).trans (hbb o a)) (y 0) (y 1) (y 2) (y 3)

end Cert.KernelIdeal.Gen
end
-- ==== Proof.KHost.lean ====
/- What the kernel's region reads: the values that the host operations before it leave, at their indices. -/
module

public import proofs.«01_k».proof.Proof.KArrays
public import Idealize.ShloMosaic.Lib.StableHlo.ReadAt

@[expose] public section

set_option maxRecDepth 16384

noncomputable section

namespace Cert.KernelIdeal.Gen
open Cert.Spec Idealize.ShloMosaic Idealize.ShloMosaic.TcCoe Cert.KernelIdeal
open Idealize.SL.Sem

variable (m : (ℓ : Loc nD τ sig) → Buf (Elt Ideal) ℓ) (c : Dev nD)
variable (L R W1 W2 W3 W P : ℕ → ℕ → ℕ → ℕ → EReal) (gam bet mu vr b : ℕ → EReal) (E : ℕ → ℕ → EReal)

/-- The images of both features, the left ones first. -/
def both (a k h w : ℕ) : EReal := if a < 2 then L a k h w else R (a - 2) k h w

theorem host_x (g0 : ∀ a k h w, m ((c : Thread nD τ).loc main_arg0) (ix4 a k h w) = L a k h w)
    (g1 : ∀ a k h w, m ((c : Thread nD τ).loc main_arg1) (ix4 a k h w) = R a k h w) (a : Fin 4) (k : Fin 32) (h w : Fin 56) :
    V m c main_v0 (ix4 a k h w) = both L R a k h w := by
  dsimp only [V, V0, hostOps0]
  after_reads_at
  unfold both
  split_ifs
  · exact g0 _ _ _ _
  · exact g1 _ _ _ _
  all_goals trivial

theorem host_s (g3 : ∀ a, m ((c : Thread nD τ).loc main_arg3) (ix1 a) = gam a) (g6 : ∀ a, m ((c : Thread nD τ).loc main_arg6) (ix1 a) = vr a)
    (k : Fin 32) (a : Fin 1) :
    V m c main_v5 (ix2 k a) = Ideal.div (gam k) (Ideal.sqrt (vr k + Ideal.ofBits .f32 0x3727C5AC#32)) := by
  rw [← g3, ← g6]
  dsimp only [V, V0, hostOps0]
  after_reads_at

theorem host_b (g3 : ∀ a, m ((c : Thread nD τ).loc main_arg3) (ix1 a) = gam a) (g4 : ∀ a, m ((c : Thread nD τ).loc main_arg4) (ix1 a) = bet a)
    (g5 : ∀ a, m ((c : Thread nD τ).loc main_arg5) (ix1 a) = mu a) (g6 : ∀ a, m ((c : Thread nD τ).loc main_arg6) (ix1 a) = vr a)
    (k : Fin 32) (a : Fin 1) :
    V m c main_v9 (ix2 k a) = bet k - mu k * Ideal.div (gam k) (Ideal.sqrt (vr k + Ideal.ofBits .f32 0x3727C5AC#32)) := by
  rw [← g3, ← g6, ← g4, ← g5]
  dsimp only [V, V0, hostOps0]
  after_reads_at

theorem host_1 (g2 : ∀ o k i j, m ((c : Thread nD τ).loc main_arg2) (ix4 o k i j) = W1 o k i j) (t : Fin 9) (o k : Fin 32) :
    V m c main_v11 (ix3 t o k) = W1 o k (t.val / 3) (t.val % 3) := by
  dsimp only [V, V0, hostOps0]
  after_reads_at
  exact g2 _ _ _ _

theorem host_2 (g7 : ∀ o k i j, m ((c : Thread nD τ).loc main_arg7) (ix4 o k i j) = W2 o k i j) (t : Fin 9) (o k : Fin 32) :
    V m c main_v13 (ix3 t o k) = W2 o k (t.val / 3) (t.val % 3) := by
  dsimp only [V, V0, hostOps0]
  after_reads_at
  exact g7 _ _ _ _

theorem host_3 (g8 : ∀ o k i j, m ((c : Thread nD τ).loc main_arg8) (ix4 o k i j) = W3 o k i j) (t : Fin 9) (o : Fin 1) (k : Fin 32) :
    V m c main_v15 (ix3 t o k) = W3 o k (t.val / 3) (t.val % 3) := by
  obtain rfl : o = 0 := Subsingleton.elim _ _
  dsimp only [V, V0, hostOps0]
  after_reads_at
  exact g8 _ _ _ _

theorem host_W (g9 : ∀ o k i j, m ((c : Thread nD τ).loc main_arg9) (ix4 o k i j) = W o k i j) (o : Fin 96) (k : Fin 32) :
    V m c main_v16 (ix2 o k) = W o k 0 0 := by
  dsimp only [V, V0, hostOps0]
  after_reads_at
  exact g9 _ _ _ _

theorem host_P (g10 : ∀ o k i j, m ((c : Thread nD τ).loc main_arg10) (ix4 o k i j) = P o k i j) (o k : Fin 32) :
    V m c main_v17 (ix2 o k) = P o k 0 0 := by
  dsimp only [V, V0, hostOps0]
  after_reads_at
  exact g10 _ _ _ _

theorem host_c (g11 : ∀ o, m ((c : Thread nD τ).loc main_arg11) (ix1 o) = b o) (o : Fin 32) (a : Fin 1) :
    V m c main_v18 (ix2 o a) = b o := by
  dsimp only [V, V0, hostOps0]
  after_reads_at
  exact g11 _

theorem host_E (g12 : ∀ n d, m ((c : Thread nD τ).loc main_arg12) (ix2 n d) = E n d) (r : Fin 11) (n : Fin 4) (j : Fin 11) :
    V m c main_v20 (ix3 r n j) = E n (r * 11 + j) := by
  dsimp only [V, V0, hostOps0]
  after_reads_at
  exact g12 _ _

theorem arrRef_inj : Function.Injective (Pipeline.arrRef spec0) := by decide

theorem tail_22 (a : Fin 2) (d : Fin 32) (h w : Fin 56) : Pipeline.afterTail₀ cfgs (dats m) 0 (V0 m) [hostOps1] c main_v22 (ix4 a d h w)
    = (dats m 0 c).arrAt 10 cfg0.N (ix4 (⟨a.val, by omega⟩ : Fin 4) d h w) := by
  unfold Pipeline.afterTail₀
  have e := Pipeline.withArrays_arr (cfgs 0).spec arrRef_inj c (V0 m c) (fun w => (dats m 0 c).arrAt w (cfgs 0).N) 10
  dsimp only [hostOps1]
  after_reads_at
  exact congrFun e _

theorem tail_23 (a : Fin 2) (d : Fin 32) (h w : Fin 56) : Pipeline.afterTail₀ cfgs (dats m) 0 (V0 m) [hostOps1] c main_v23 (ix4 a d h w)
    = (dats m 0 c).arrAt 10 cfg0.N (ix4 (⟨2 + a.val, by omega⟩ : Fin 4) d h w) := by
  unfold Pipeline.afterTail₀
  have e := Pipeline.withArrays_arr (cfgs 0).spec arrRef_inj c (V0 m c) (fun w => (dats m 0 c).arrAt w (cfgs 0).N) 10
  dsimp only [hostOps1]
  after_reads_at
  exact congrFun e _

theorem tail_24 (a : Fin 2) (d : Fin 1) (h w : Fin 56) : Pipeline.afterTail₀ cfgs (dats m) 0 (V0 m) [hostOps1] c main_v24 (ix4 a d h w)
    = (dats m 0 c).arrAt 11 cfg0.N (ix4 (⟨a.val, by omega⟩ : Fin 4) d h w) := by
  obtain rfl : d = 0 := Subsingleton.elim _ _
  unfold Pipeline.afterTail₀
  have e := Pipeline.withArrays_arr (cfgs 0).spec arrRef_inj c (V0 m c) (fun w => (dats m 0 c).arrAt w (cfgs 0).N) 11
  dsimp only [hostOps1]
  after_reads_at
  exact congrFun e _

theorem tail_25 (a : Fin 2) (d : Fin 1) (h w : Fin 56) : Pipeline.afterTail₀ cfgs (dats m) 0 (V0 m) [hostOps1] c main_v25 (ix4 a d h w)
    = (dats m 0 c).arrAt 11 cfg0.N (ix4 (⟨2 + a.val, by omega⟩ : Fin 4) d h w) := by
  obtain rfl : d = 0 := Subsingleton.elim _ _
  unfold Pipeline.afterTail₀
  have e := Pipeline.withArrays_arr (cfgs 0).spec arrRef_inj c (V0 m c) (fun w => (dats m 0 c).arrAt w (cfgs 0).N) 11
  dsimp only [hostOps1]
  after_reads_at
  exact congrFun e _

/-- The normalization as the kernel computes it: a factor and a shift, both from the four vectors. -/
def kbn (c : ℕ) (y : EReal) : EReal :=
  y * Ideal.div (gam c) (Ideal.sqrt (vr c + Ideal.ofBits .f32 0x3727C5AC#32))
    + (bet c - mu c * Ideal.div (gam c) (Ideal.sqrt (vr c + Ideal.ofBits .f32 0x3727C5AC#32)))

section Values

variable (g0 : ∀ a k h w, m ((c : Thread nD τ).loc main_arg0) (ix4 a k h w) = L a k h w)
    (g1 : ∀ a k h w, m ((c : Thread nD τ).loc main_arg1) (ix4 a k h w) = R a k h w)
    (g2 : ∀ o k i j, m ((c : Thread nD τ).loc main_arg2) (ix4 o k i j) = W1 o k i j)
    (g3 : ∀ a, m ((c : Thread nD τ).loc main_arg3) (ix1 a) = gam a) (g4 : ∀ a, m ((c : Thread nD τ).loc main_arg4) (ix1 a) = bet a)
    (g5 : ∀ a, m ((c : Thread nD τ).loc main_arg5) (ix1 a) = mu a) (g6 : ∀ a, m ((c : Thread nD τ).loc main_arg6) (ix1 a) = vr a)
    (g7 : ∀ o k i j, m ((c : Thread nD τ).loc main_arg7) (ix4 o k i j) = W2 o k i j)
    (g8 : ∀ o k i j, m ((c : Thread nD τ).loc main_arg8) (ix4 o k i j) = W3 o k i j)
include g0 g1 g2 g3 g4 g5 g6 g7 g8

theorem mask_at (a : Fin 4) (d : Fin 1) (h w : Fin 56) :
    (dats m 0 c).arrAt 11 cfg0.N (ix4 a d h w) = maskVal (both L R a) W1 W2 W3 (kbn gam bet mu vr) h w :=
  arr_mask m c (both L R) W1 W2 W3 _ _ (host_x m c L R g0 g1) (host_1 m c W1 g2) (host_s m c gam vr g3 g6) (host_b m c gam bet mu vr g3 g4 g5 g6)
    (host_2 m c W2 g7) (host_3 m c W3 g8) a d h w

theorem out_24 (a : Fin 2) (d : Fin 1) (h w : Fin 56) : Pipeline.afterTail₀ cfgs (dats m) 0 (V0 m) [hostOps1] c main_v24 (ix4 a d h w)
    = maskVal (L a) W1 W2 W3 (kbn gam bet mu vr) h w := by
  have e : both L R a = L a := by funext k h w; simp [both, a.2]
  exact (tail_24 m c a d h w).trans ((mask_at m c L R W1 W2 W3 gam bet mu vr g0 g1 g2 g3 g4 g5 g6 g7 g8 _ d h w).trans (by rw [e]))

theorem out_25 (a : Fin 2) (d : Fin 1) (h w : Fin 56) : Pipeline.afterTail₀ cfgs (dats m) 0 (V0 m) [hostOps1] c main_v25 (ix4 a d h w)
    = maskVal (R a) W1 W2 W3 (kbn gam bet mu vr) h w := by
  have e : both L R (2 + a) = R a := by funext k h w; simp only [both, show ¬(2 + a.val < 2) by omega, if_false, Nat.add_sub_cancel_left]
  exact (tail_25 m c a d h w).trans ((mask_at m c L R W1 W2 W3 gam bet mu vr g0 g1 g2 g3 g4 g5 g6 g7 g8 _ d h w).trans (by rw [e]))

variable (g9 : ∀ o k i j, m ((c : Thread nD τ).loc main_arg9) (ix4 o k i j) = W o k i j)
    (g10 : ∀ o k i j, m ((c : Thread nD τ).loc main_arg10) (ix4 o k i j) = P o k i j)
    (g11 : ∀ o, m ((c : Thread nD τ).loc main_arg11) (ix1 o) = b o) (g12 : ∀ n d, m ((c : Thread nD τ).loc main_arg12) (ix2 n d) = E n d)
include g9 g10 g11 g12

theorem feat_at (a : Fin 4) (d : Fin 32) (h w : Fin 56) :
    (dats m 0 c).arrAt 10 cfg0.N (ix4 a d h w) = feat (both L R a) (fun o k => W o k 0 0)
      (fun h w => bit (maskVal (both L R a) W1 W2 W3 (kbn gam bet mu vr) h w)) (fun n r j => E n (r * 11 + j)) (fun o k => P o k 0 0) b d h w :=
  arr_feat m c (both L R) W1 W2 W3 _ _ b (fun o k => W o k 0 0) (fun o k => P o k 0 0) (fun r n j => E n (r * 11 + j))
    (host_x m c L R g0 g1) (host_1 m c W1 g2) (host_s m c gam vr g3 g6) (host_b m c gam bet mu vr g3 g4 g5 g6)
    (host_2 m c W2 g7) (host_3 m c W3 g8) (host_W m c W g9) (host_P m c P g10) (host_c m c b g11) (host_E m c E g12) a d h w

theorem out_22 (a : Fin 2) (d : Fin 32) (h w : Fin 56) : Pipeline.afterTail₀ cfgs (dats m) 0 (V0 m) [hostOps1] c main_v22 (ix4 a d h w)
    = feat (L a) (fun o k => W o k 0 0) (fun h w => bit (maskVal (L a) W1 W2 W3 (kbn gam bet mu vr) h w)) (fun n r j => E n (r * 11 + j))
        (fun o k => P o k 0 0) b d h w := by
  have e : both L R a = L a := by funext k h w; simp [both, a.2]
  exact (tail_22 m c a d h w).trans ((feat_at m c L R W1 W2 W3 W P gam bet mu vr b E g0 g1 g2 g3 g4 g5 g6 g7 g8 g9 g10 g11 g12 _ d h w).trans (by rw [e]))

theorem out_23 (a : Fin 2) (d : Fin 32) (h w : Fin 56) : Pipeline.afterTail₀ cfgs (dats m) 0 (V0 m) [hostOps1] c main_v23 (ix4 a d h w)
    = feat (R a) (fun o k => W o k 0 0) (fun h w => bit (maskVal (R a) W1 W2 W3 (kbn gam bet mu vr) h w)) (fun n r j => E n (r * 11 + j))
        (fun o k => P o k 0 0) b d h w := by
  have e : both L R (2 + a) = R a := by funext k h w; simp only [both, show ¬(2 + a.val < 2) by omega, if_false, Nat.add_sub_cancel_left]
  exact (tail_23 m c a d h w).trans ((feat_at m c L R W1 W2 W3 W P gam bet mu vr b E g0 g1 g2 g3 g4 g5 g6 g7 g8 g9 g10 g11 g12 _ d h w).trans (by rw [e]))

end Values

end Cert.KernelIdeal.Gen
end
-- ==== Proof.RMask.lean ====
/- The reference's mask: its host operations grouped into functions, and each function read at an index. -/
module

public import proofs.«01_k».proof.Proof.Spec
public import proofs.«01_k».proof.Proof.Gen.ReferenceIdeal
public import Idealize.ShloMosaic.Lib.Pointwise

@[expose] public section

set_option maxRecDepth 16384

noncomputable section

namespace Cert.ReferenceIdeal.Gen
open Cert.Spec Idealize.ShloMosaic Cert.ReferenceIdeal

/-- The images with a border of one zero. -/
def rpad (x : Vec Ideal S2x32x56x56 .f32) : Vec Ideal S2x32x58x58 .f32 :=
  pad S2x32x58x58 ![0, 0, 1, 1] ![0, 0, 1, 1] ![0, 0, 0, 0] (x) (sitofp (F := Ideal) .f32 (constantI S_ 32 0#32)) pads_S2x32x56x56_S2x32x58x58_000_000_110_110 h_S_

/-- The three row shifts, stacked. -/
def rrows (y : Vec Ideal S2x32x58x58 .f32) : Vec Ideal S2x32x3x56x58 .f32 :=
  (concatenate S2x32x3x56x58 2 [⟨S2x32x1x56x58, ((broadcastInDim S2x32x1x56x58 ![0, 1, 3, 4] bcast_S2x32x56x58_S2x32x1x56x58_0_1_3_4 (extractStridedSlice S2x32x56x58 ![0, 0, 0, 0] (y) slices_S2x32x58x58_S2x32x56x58_0_0_0_0)) : (⟨S2x32x1x56x58, .f32⟩ : BufTy).Contents (Elt Ideal))⟩, ⟨S2x32x1x56x58, ((broadcastInDim S2x32x1x56x58 ![0, 1, 3, 4] bcast_S2x32x56x58_S2x32x1x56x58_0_1_3_4 (extractStridedSlice S2x32x56x58 ![0, 0, 1, 0] (y) slices_S2x32x58x58_S2x32x56x58_0_0_1_0)) : (⟨S2x32x1x56x58, .f32⟩ : BufTy).Contents (Elt Ideal))⟩, ⟨S2x32x1x56x58, ((broadcastInDim S2x32x1x56x58 ![0, 1, 3, 4] bcast_S2x32x56x58_S2x32x1x56x58_0_1_3_4 (extractStridedSlice S2x32x56x58 ![0, 0, 2, 0] (y) slices_S2x32x58x58_S2x32x56x58_0_0_2_0)) : (⟨S2x32x1x56x58, .f32⟩ : BufTy).Contents (Elt Ideal))⟩] concatenates_S2x32x1x56x58_S2x32x1x56x58_S2x32x1x56x58_S2x32x3x56x58_d2 : (⟨S2x32x3x56x58, .f32⟩ : BufTy).Contents (Elt Ideal))

/-- The three column shifts, stacked. -/
def rcols (y : Vec Ideal S2x32x3x56x58 .f32) : Vec Ideal S2x32x3x3x56x56 .f32 :=
  (concatenate S2x32x3x3x56x56 3 [⟨S2x32x3x1x56x56, ((broadcastInDim S2x32x3x1x56x56 ![0, 1, 2, 4, 5] bcast_S2x32x3x56x56_S2x32x3x1x56x56_0_1_2_4_5 (extractStridedSlice S2x32x3x56x56 ![0, 0, 0, 0, 0] (y) slices_S2x32x3x56x58_S2x32x3x56x56_0_0_0_0_0)) : (⟨S2x32x3x1x56x56, .f32⟩ : BufTy).Contents (Elt Ideal))⟩, ⟨S2x32x3x1x56x56, ((broadcastInDim S2x32x3x1x56x56 ![0, 1, 2, 4, 5] bcast_S2x32x3x56x56_S2x32x3x1x56x56_0_1_2_4_5 (extractStridedSlice S2x32x3x56x56 ![0, 0, 0, 0, 1] (y) slices_S2x32x3x56x58_S2x32x3x56x56_0_0_0_0_1)) : (⟨S2x32x3x1x56x56, .f32⟩ : BufTy).Contents (Elt Ideal))⟩, ⟨S2x32x3x1x56x56, ((broadcastInDim S2x32x3x1x56x56 ![0, 1, 2, 4, 5] bcast_S2x32x3x56x56_S2x32x3x1x56x56_0_1_2_4_5 (extractStridedSlice S2x32x3x56x56 ![0, 0, 0, 0, 2] (y) slices_S2x32x3x56x58_S2x32x3x56x56_0_0_0_0_2)) : (⟨S2x32x3x1x56x56, .f32⟩ : BufTy).Contents (Elt Ideal))⟩] concatenates_S2x32x3x1x56x56_S2x32x3x1x56x56_S2x32x3x1x56x56_S2x32x3x3x56x56_d3 : (⟨S2x32x3x3x56x56, .f32⟩ : BufTy).Contents (Elt Ideal))

/-- The nine shifts of every channel, side by side. -/
def rpatch (x : Vec Ideal S2x32x56x56 .f32) : Vec Ideal S2x288x56x56 .f32 :=
  shapeCast S2x288x56x56 (rcols (rrows (rpad x))) shapeCasts_S2x32x3x3x56x56_S2x288x56x56

/-- A 3×3 convolution. -/
def rconv (x : Vec Ideal S2x32x56x56 .f32) (w : Vec Ideal S32x32x3x3 .f32) : Vec Ideal S2x32x56x56 .f32 :=
  transpose S2x32x56x56 [0, 3, 1, 2] (Host.dotGeneral (F := Ideal) (φ₁ := .f32) (φ₂ := .f32) dot_S2x288x56x56_S32x288_S2x56x56x32_1_1_023_0_n_n none (rpatch x) (shapeCast S32x288 (w) shapeCasts_S32x32x3x3_S32x288)) transposes_S2x56x56x32_S2x32x56x56_0_3_1_2

/-- A 3×3 convolution to one channel. -/
def rconv1 (x : Vec Ideal S2x32x56x56 .f32) (w : Vec Ideal S1x32x3x3 .f32) : Vec Ideal S2x1x56x56 .f32 :=
  transpose S2x1x56x56 [0, 3, 1, 2] (Host.dotGeneral (F := Ideal) (φ₁ := .f32) (φ₂ := .f32) dot_S2x288x56x56_S1x288_S2x56x56x1_1_1_023_0_n_n none (rpatch x) (shapeCast S1x288 (w) shapeCasts_S1x32x3x3_S1x288)) transposes_S2x56x56x1_S2x1x56x56_0_3_1_2

/-- The normalization and its ramp. -/
def rbn (y : Vec Ideal S2x32x56x56 .f32) (g : Vec Ideal S32 .f32) (b : Vec Ideal S32 .f32) (m : Vec Ideal S32 .f32) (v : Vec Ideal S32 .f32) : Vec Ideal S2x32x56x56 .f32 :=
  maximumf (F := Ideal) (φ := .f32) (addf (F := Ideal) (φ := .f32) (Host.divf (F := Ideal) (φ := .f32) (mulf (F := Ideal) (φ := .f32) (broadcastInDim S2x32x56x56 ![0, 1, 2, 3] bcast_S1x32x1x1_S2x32x56x56_0_1_2_3 (broadcastInDim S1x32x1x1 ![1] bcast_S32_S1x32x1x1_1 (g))) (subf (F := Ideal) (φ := .f32) (y) (broadcastInDim S2x32x56x56 ![0, 1, 2, 3] bcast_S1x32x1x1_S2x32x56x56_0_1_2_3 (broadcastInDim S1x32x1x1 ![1] bcast_S32_S1x32x1x1_1 (m))))) (broadcastInDim S2x32x56x56 ![0, 1, 2, 3] bcast_S1x32x1x1_S2x32x56x56_0_1_2_3 (Host.sqrt (F := Ideal) (φ := .f32) (addf (F := Ideal) (φ := .f32) (broadcastInDim S1x32x1x1 ![1] bcast_S32_S1x32x1x1_1 (v)) (broadcastInDim S1x32x1x1 ![] bcast_S_S1x32x1x1 (constant (F := Ideal) S_ .f32 0x3727C5AC#32)))))) (broadcastInDim S2x32x56x56 ![0, 1, 2, 3] bcast_S1x32x1x1_S2x32x56x56_0_1_2_3 (broadcastInDim S1x32x1x1 ![1] bcast_S32_S1x32x1x1_1 (b)))) (broadcastInDim S2x32x56x56 ![] bcast_S_S2x32x56x56 (constant (F := Ideal) S_ .f32 0x00000000#32))

/-- The ramp. -/
def rrelu (y : Vec Ideal S2x32x56x56 .f32) : Vec Ideal S2x32x56x56 .f32 :=
  maximumf (F := Ideal) (φ := .f32) (y) (broadcastInDim S2x32x56x56 ![] bcast_S_S2x32x56x56 (constant (F := Ideal) S_ .f32 0x00000000#32))

/-- The logistic function. -/
def rsig (y : Vec Ideal S2x1x56x56 .f32) : Vec Ideal S2x1x56x56 .f32 :=
  Host.divf (F := Ideal) (φ := .f32) (broadcastInDim S2x1x56x56 ![] bcast_S_S2x1x56x56 (constant (F := Ideal) S_ .f32 0x3F800000#32)) (addf (F := Ideal) (φ := .f32) (broadcastInDim S2x1x56x56 ![] bcast_S_S2x1x56x56 (constant (F := Ideal) S_ .f32 0x3F800000#32)) (Host.exp (F := Ideal) (φ := .f32) (Host.negf (F := Ideal) (φ := .f32) (y))))

/-- The mask. -/
def rmask (x : Vec Ideal S2x32x56x56 .f32) (w1 : Vec Ideal S32x32x3x3 .f32) (g b m v : Vec Ideal S32 .f32) (w2 : Vec Ideal S32x32x3x3 .f32)
    (w3 : Vec Ideal S1x32x3x3 .f32) : Vec Ideal S2x1x56x56 .f32 :=
  rsig (rconv1 (rrelu (rconv (rbn (rconv x w1) g b m v) w2)) w3)

section At

variable (x : Vec Ideal S2x32x56x56 .f32) (X : ℕ → ℕ → ℕ → ℕ → EReal)

theorem rrows_at (y : Vec Ideal S2x32x58x58 .f32) (a : Fin 2) (k : Fin 32) (i : Fin 3) (h : Fin 56) (w : Fin 58) :
    rrows y (ix5 a k i h w) = y (ix4 a k ⟨i + h, by omega⟩ w) := by
  fin_cases i <;> pointwise [rrows]

theorem rcols_at (y : Vec Ideal S2x32x3x56x58 .f32) (a : Fin 2) (k : Fin 32) (i : Fin 3) (j : Fin 3) (h : Fin 56) (w : Fin 56) :
    rcols y (ix6 a k i j h w) = y (ix5 a k i h ⟨j + w, by omega⟩) := by
  fin_cases j <;> pointwise [rcols]

/-- The integer zero, as a float. -/
theorem sitofp_zero : FloatOps.sitofp (F := Ideal) FTy.f32 0#32 = (0 : EReal) := by
  show (((0#32 : BitVec 32).toInt : ℝ) : EReal) = 0
  simp

theorem rpad_at (hx : ∀ a k h w, x (ix4 a k h w) = X a k h w) (a : Fin 2) (k : Fin 32) (h w : Fin 58) :
    rpad x (ix4 a k h w) = padf 1 56 (X a k) h w := by
  pointwise [rpad]
  rw [sitofp_zero]
  simp only [hx, padf]
  split_ifs <;> first | rfl | omega

theorem rpatch_at (hx : ∀ a k h w, x (ix4 a k h w) = X a k h w) (a : Fin 2) (k : Fin 288) (h w : Fin 56) :
    rpatch x (ix4 a k h w) = padf 1 56 (X a (k.val / 9)) (k.val % 9 / 3 + h) (k.val % 3 + w) := by
  unfold rpatch
  generalize hy : rcols (rrows (rpad x)) = y
  pointwise
  rw [← hy, rcols_at, rrows_at, rpad_at x X hx]
  dsimp only
  rw [show k.val / 3 % 3 = k.val % 9 / 3 by omega]

/-- A sum over 288 positions is nine sums over the 32 channels. -/
theorem sum_288 (f : ℕ → EReal) : ∑ k : Fin 288, f k = ∑ t : Fin 9, ∑ c : Fin 32, f (9 * c + t) := by
  rw [Finset.sum_comm, ← Finset.sum_product', ← (finProdFinEquiv (m := 32) (n := 9)).sum_comp (fun k : Fin 288 => f k)]
  refine Finset.sum_congr rfl fun p _ => ?_
  simp [finProdFinEquiv, add_comm]

theorem conv_sum (W : ℕ → ℕ → ℕ → ℕ → EReal) (Y : ℕ → ℕ → ℕ → EReal) (o h q : ℕ) :
    ∑ k : Fin 288, padf 1 56 (Y (k.val / 9)) (k.val % 9 / 3 + h) (k.val % 3 + q) * W o (k.val / 9) (k.val % 9 / 3) (k.val % 3) = conv3 W Y o h q := by
  rw [sum_288 (fun k => padf 1 56 (Y (k / 9)) (k % 9 / 3 + h) (k % 3 + q) * W o (k / 9) (k % 9 / 3) (k % 3))]
  rw [Fin.sum_univ_castSucc, Fin.sum_univ_eight]
  unfold conv3 tap
  have e : ∀ t : ℕ, t < 9 → (∑ c : Fin 32, padf 1 56 (Y ((9 * c.val + t) / 9)) ((9 * c.val + t) % 9 / 3 + h) ((9 * c.val + t) % 3 + q)
      * W o ((9 * c.val + t) / 9) ((9 * c.val + t) % 9 / 3) ((9 * c.val + t) % 3)) = ∑ c : Fin 32, W o c (t / 3) (t % 3) * padf 1 56 (Y c) (t / 3 + h) (t % 3 + q) := by
    intro t ht
    refine Finset.sum_congr rfl fun c _ => ?_
    rw [show (9 * c.val + t) / 9 = c by omega, show (9 * c.val + t) % 9 / 3 = t / 3 by omega, show (9 * c.val + t) % 3 = t % 3 by omega, mul_comm]
  refine congrArg₂ (· + ·) (congrArg₂ (· + ·) (congrArg₂ (· + ·) (congrArg₂ (· + ·) (congrArg₂ (· + ·) (congrArg₂ (· + ·) (congrArg₂ (· + ·) (congrArg₂ (· + ·) ?_ ?_) ?_) ?_) ?_) ?_) ?_) ?_) ?_
  · exact e 0 (by decide)
  · exact e 1 (by decide)
  · exact e 2 (by decide)
  · exact e 3 (by decide)
  · exact e 4 (by decide)
  · exact e 5 (by decide)
  · exact e 6 (by decide)
  · exact e 7 (by decide)
  · exact e 8 (by decide)

theorem rconv_at (w : Vec Ideal S32x32x3x3 .f32) (W : ℕ → ℕ → ℕ → ℕ → EReal) (hx : ∀ a k h w, x (ix4 a k h w) = X a k h w)
    (hw : ∀ o k i j, w (ix4 o k i j) = W o k i j) (a : Fin 2) (o : Fin 32) (h q : Fin 56) :
    rconv x w (ix4 a o h q) = conv3 W (X a) o h q := by
  have hp := rpatch_at x X hx
  unfold rconv
  generalize rpatch x = y at hp ⊢
  pointwise
  simp only [hp, hw]
  refine Eq.trans ?_ (conv_sum W (X a) o h q)
  exact Finset.sum_congr rfl fun k _ => by rw [show k.val / 3 % 3 = k.val % 9 / 3 by omega]

theorem rconv1_at (w : Vec Ideal S1x32x3x3 .f32) (W : ℕ → ℕ → ℕ → ℕ → EReal) (hx : ∀ a k h w, x (ix4 a k h w) = X a k h w)
    (hw : ∀ o k i j, w (ix4 o k i j) = W o k i j) (a : Fin 2) (o : Fin 1) (h q : Fin 56) :
    rconv1 x w (ix4 a o h q) = conv3 W (X a) 0 h q := by
  obtain rfl : o = 0 := Subsingleton.elim _ _
  have hp := rpatch_at x X hx
  unfold rconv1
  generalize rpatch x = y at hp ⊢
  pointwise
  simp only [hp, hw]
  refine Eq.trans ?_ (conv_sum W (X a) 0 h q)
  exact Finset.sum_congr rfl fun k _ => by rw [show k.val / 3 % 3 = k.val % 9 / 3 by omega]; rfl

theorem rbn_at (y : Vec Ideal S2x32x56x56 .f32) (g b m v : Vec Ideal S32 .f32) (a : Fin 2) (o : Fin 32) (h q : Fin 56) :
    rbn y g b m v (ix4 a o h q) = max (Ideal.div (g (ix1 o) * (y (ix4 a o h q) - m (ix1 o))) (Ideal.sqrt (v (ix1 o) + Ideal.ofBits .f32 0x3727C5AC#32)) + b (ix1 o)) 0 := by
  pointwise [rbn]

theorem rrelu_at (y : Vec Ideal S2x32x56x56 .f32) (a : Fin 2) (o : Fin 32) (h q : Fin 56) : rrelu y (ix4 a o h q) = max (y (ix4 a o h q)) 0 := by
  pointwise [rrelu]

theorem rsig_at (y : Vec Ideal S2x1x56x56 .f32) (a : Fin 2) (o : Fin 1) (h q : Fin 56) : rsig y (ix4 a o h q) = Ideal.logistic (y (ix4 a o h q)) := by
  pointwise [rsig]
  rfl

/-- The normalization as the reference computes it. -/
def refBn (gam bet mu vr : ℕ → EReal) (c : ℕ) (y : EReal) : EReal :=
  Ideal.div (gam c * (y - mu c)) (Ideal.sqrt (vr c + Ideal.ofBits .f32 0x3727C5AC#32)) + bet c

theorem rmask_at (w1 w2 : Vec Ideal S32x32x3x3 .f32) (w3 : Vec Ideal S1x32x3x3 .f32) (g b m v : Vec Ideal S32 .f32)
    (W1 W2 W3 : ℕ → ℕ → ℕ → ℕ → EReal) (gam bet mu vr : ℕ → EReal)
    (hx : ∀ a k h w, x (ix4 a k h w) = X a k h w) (h1 : ∀ o k i j, w1 (ix4 o k i j) = W1 o k i j) (hg : ∀ o, g (ix1 o) = gam o) (hb : ∀ o, b (ix1 o) = bet o)
    (hm : ∀ o, m (ix1 o) = mu o) (hv : ∀ o, v (ix1 o) = vr o) (h2 : ∀ o k i j, w2 (ix4 o k i j) = W2 o k i j) (h3 : ∀ o k i j, w3 (ix4 o k i j) = W3 o k i j)
    (a : Fin 2) (o : Fin 1) (h q : Fin 56) :
    rmask x w1 g b m v w2 w3 (ix4 a o h q) = maskVal (X a) W1 W2 W3 (refBn gam bet mu vr) h q := by
  unfold rmask
  rw [rsig_at, rconv1_at _ (fun a c h w => max (conv3 W2 (fun c h w => max (refBn gam bet mu vr c (conv3 W1 (X a) c h w)) 0) c h w) 0) w3 W3 (fun a k h w => ?_) h3]
  · rfl
  rw [rrelu_at, rconv_at _ (fun a c h w => max (refBn gam bet mu vr c (conv3 W1 (X a) c h w)) 0) w2 W2 (fun a k h w => ?_) h2]
  rw [rbn_at, rconv_at x X w1 W1 hx h1, hg, hb, hm, hv]
  rfl

end At

end Cert.ReferenceIdeal.Gen
end
-- ==== Proof.RFeat.lean ====
/- The reference's feature map: its host operations grouped into functions, and each function read at an index. -/
module

public import proofs.«01_k».proof.Proof.RMask

@[expose] public section

set_option maxRecDepth 16384

noncomputable section

namespace Cert.ReferenceIdeal.Gen
open Cert.Spec Idealize.ShloMosaic Cert.ReferenceIdeal

/-- Queries, keys and values of every pixel. -/
def rqkv (x : Vec Ideal S2x32x56x56 .f32) (w : Vec Ideal S96x32x1x1 .f32) : Vec Ideal S2x96x56x56 .f32 :=
  transpose S2x96x56x56 [0, 3, 1, 2] (Host.dotGeneral (F := Ideal) (φ₁ := .f32) (φ₂ := .f32) dot_S2x32x56x56_S96x32_S2x56x56x96_1_1_023_0_n_n none (x) (shapeCast S96x32 (w) shapeCasts_S96x32x1x1_S96x32)) transposes_S2x56x56x96_S2x96x56x56_0_3_1_2

/-- The queries. -/
def rq (t : Vec Ideal S2x96x56x56 .f32) : Vec Ideal S2x4x8x3136 .f32 :=
  shapeCast S2x4x8x3136 (shapeCast S2x4x8x56x56 (extractStridedSlice S2x1x4x8x56x56 ![0, 0, 0, 0, 0, 0] (shapeCast S2x3x4x8x56x56 (t) shapeCasts_S2x96x56x56_S2x3x4x8x56x56) slices_S2x3x4x8x56x56_S2x1x4x8x56x56_0_0_0_0_0_0) shapeCasts_S2x1x4x8x56x56_S2x4x8x56x56) shapeCasts_S2x4x8x56x56_S2x4x8x3136

/-- The keys. -/
def rk (t : Vec Ideal S2x96x56x56 .f32) : Vec Ideal S2x32x56x56 .f32 :=
  shapeCast S2x32x56x56 (shapeCast S2x4x8x56x56 (extractStridedSlice S2x1x4x8x56x56 ![0, 1, 0, 0, 0, 0] (shapeCast S2x3x4x8x56x56 (t) shapeCasts_S2x96x56x56_S2x3x4x8x56x56) slices_S2x3x4x8x56x56_S2x1x4x8x56x56_0_1_0_0_0_0) shapeCasts_S2x1x4x8x56x56_S2x4x8x56x56) shapeCasts_S2x4x8x56x56_S2x32x56x56

/-- The values. -/
def rv (t : Vec Ideal S2x96x56x56 .f32) : Vec Ideal S2x32x56x56 .f32 :=
  shapeCast S2x32x56x56 (shapeCast S2x4x8x56x56 (extractStridedSlice S2x1x4x8x56x56 ![0, 2, 0, 0, 0, 0] (shapeCast S2x3x4x8x56x56 (t) shapeCasts_S2x96x56x56_S2x3x4x8x56x56) slices_S2x3x4x8x56x56_S2x1x4x8x56x56_0_2_0_0_0_0) shapeCasts_S2x1x4x8x56x56_S2x4x8x56x56) shapeCasts_S2x4x8x56x56_S2x32x56x56

/-- The zero-one mask. -/
def rbit (y : Vec Ideal S2x1x56x56 .f32) : Vec Ideal S2x1x56x56 .f32 :=
  uitofp (F := Ideal) .f32 (cmpf (F := Ideal) (φ := .f32) .ogt (y) (broadcastInDim S2x1x56x56 ![] bcast_S_S2x1x56x56 (constant (F := Ideal) S_ .f32 0x3F000000#32)))

/-- Keys, values and mask with a border of five zeros. -/
def rcat (k : Vec Ideal S2x32x56x56 .f32) (v : Vec Ideal S2x32x56x56 .f32) (b : Vec Ideal S2x1x56x56 .f32) : Vec Ideal S2x65x66x66 .f32 :=
  pad S2x65x66x66 ![0, 0, 5, 5] ![0, 0, 5, 5] ![0, 0, 0, 0] ((concatenate S2x65x56x56 1 [⟨S2x32x56x56, ((k) : (⟨S2x32x56x56, .f32⟩ : BufTy).Contents (Elt Ideal))⟩, ⟨S2x32x56x56, ((v) : (⟨S2x32x56x56, .f32⟩ : BufTy).Contents (Elt Ideal))⟩, ⟨S2x1x56x56, ((b) : (⟨S2x1x56x56, .f32⟩ : BufTy).Contents (Elt Ideal))⟩] concatenates_S2x32x56x56_S2x32x56x56_S2x1x56x56_S2x65x56x56_d1 : (⟨S2x65x56x56, .f32⟩ : BufTy).Contents (Elt Ideal))) (sitofp (F := Ideal) .f32 (constantI S_ 32 0#32)) pads_S2x65x56x56_S2x65x66x66_000_000_550_550 h_S_

/-- The eleven row shifts, stacked. -/
def rrows11 (y : Vec Ideal S2x65x66x66 .f32) : Vec Ideal S2x65x11x56x66 .f32 :=
  (concatenate S2x65x11x56x66 2 [⟨S2x65x1x56x66, ((broadcastInDim S2x65x1x56x66 ![0, 1, 3, 4] bcast_S2x65x56x66_S2x65x1x56x66_0_1_3_4 (extractStridedSlice S2x65x56x66 ![0, 0, 0, 0] (y) slices_S2x65x66x66_S2x65x56x66_0_0_0_0)) : (⟨S2x65x1x56x66, .f32⟩ : BufTy).Contents (Elt Ideal))⟩, ⟨S2x65x1x56x66, ((broadcastInDim S2x65x1x56x66 ![0, 1, 3, 4] bcast_S2x65x56x66_S2x65x1x56x66_0_1_3_4 (extractStridedSlice S2x65x56x66 ![0, 0, 1, 0] (y) slices_S2x65x66x66_S2x65x56x66_0_0_1_0)) : (⟨S2x65x1x56x66, .f32⟩ : BufTy).Contents (Elt Ideal))⟩, ⟨S2x65x1x56x66, ((broadcastInDim S2x65x1x56x66 ![0, 1, 3, 4] bcast_S2x65x56x66_S2x65x1x56x66_0_1_3_4 (extractStridedSlice S2x65x56x66 ![0, 0, 2, 0] (y) slices_S2x65x66x66_S2x65x56x66_0_0_2_0)) : (⟨S2x65x1x56x66, .f32⟩ : BufTy).Contents (Elt Ideal))⟩, ⟨S2x65x1x56x66, ((broadcastInDim S2x65x1x56x66 ![0, 1, 3, 4] bcast_S2x65x56x66_S2x65x1x56x66_0_1_3_4 (extractStridedSlice S2x65x56x66 ![0, 0, 3, 0] (y) slices_S2x65x66x66_S2x65x56x66_0_0_3_0)) : (⟨S2x65x1x56x66, .f32⟩ : BufTy).Contents (Elt Ideal))⟩, ⟨S2x65x1x56x66, ((broadcastInDim S2x65x1x56x66 ![0, 1, 3, 4] bcast_S2x65x56x66_S2x65x1x56x66_0_1_3_4 (extractStridedSlice S2x65x56x66 ![0, 0, 4, 0] (y) slices_S2x65x66x66_S2x65x56x66_0_0_4_0)) : (⟨S2x65x1x56x66, .f32⟩ : BufTy).Contents (Elt Ideal))⟩, ⟨S2x65x1x56x66, ((broadcastInDim S2x65x1x56x66 ![0, 1, 3, 4] bcast_S2x65x56x66_S2x65x1x56x66_0_1_3_4 (extractStridedSlice S2x65x56x66 ![0, 0, 5, 0] (y) slices_S2x65x66x66_S2x65x56x66_0_0_5_0)) : (⟨S2x65x1x56x66, .f32⟩ : BufTy).Contents (Elt Ideal))⟩, ⟨S2x65x1x56x66, ((broadcastInDim S2x65x1x56x66 ![0, 1, 3, 4] bcast_S2x65x56x66_S2x65x1x56x66_0_1_3_4 (extractStridedSlice S2x65x56x66 ![0, 0, 6, 0] (y) slices_S2x65x66x66_S2x65x56x66_0_0_6_0)) : (⟨S2x65x1x56x66, .f32⟩ : BufTy).Contents (Elt Ideal))⟩, ⟨S2x65x1x56x66, ((broadcastInDim S2x65x1x56x66 ![0, 1, 3, 4] bcast_S2x65x56x66_S2x65x1x56x66_0_1_3_4 (extractStridedSlice S2x65x56x66 ![0, 0, 7, 0] (y) slices_S2x65x66x66_S2x65x56x66_0_0_7_0)) : (⟨S2x65x1x56x66, .f32⟩ : BufTy).Contents (Elt Ideal))⟩, ⟨S2x65x1x56x66, ((broadcastInDim S2x65x1x56x66 ![0, 1, 3, 4] bcast_S2x65x56x66_S2x65x1x56x66_0_1_3_4 (extractStridedSlice S2x65x56x66 ![0, 0, 8, 0] (y) slices_S2x65x66x66_S2x65x56x66_0_0_8_0)) : (⟨S2x65x1x56x66, .f32⟩ : BufTy).Contents (Elt Ideal))⟩, ⟨S2x65x1x56x66, ((broadcastInDim S2x65x1x56x66 ![0, 1, 3, 4] bcast_S2x65x56x66_S2x65x1x56x66_0_1_3_4 (extractStridedSlice S2x65x56x66 ![0, 0, 9, 0] (y) slices_S2x65x66x66_S2x65x56x66_0_0_9_0)) : (⟨S2x65x1x56x66, .f32⟩ : BufTy).Contents (Elt Ideal))⟩, ⟨S2x65x1x56x66, ((broadcastInDim S2x65x1x56x66 ![0, 1, 3, 4] bcast_S2x65x56x66_S2x65x1x56x66_0_1_3_4 (extractStridedSlice S2x65x56x66 ![0, 0, 10, 0] (y) slices_S2x65x66x66_S2x65x56x66_0_0_10_0)) : (⟨S2x65x1x56x66, .f32⟩ : BufTy).Contents (Elt Ideal))⟩] concatenates_S2x65x1x56x66_S2x65x1x56x66_S2x65x1x56x66_S2x65x1x56x66_S2x65x1x56x66_S2x65x1x56x66_S2x65x1x56x66_S2x65x1x56x66_S2x65x1x56x66_S2x65x1x56x66_S2x65x1x56x66_S2x65x11x56x66_d2 : (⟨S2x65x11x56x66, .f32⟩ : BufTy).Contents (Elt Ideal))

/-- The eleven column shifts, stacked. -/
def rcols11 (y : Vec Ideal S2x65x11x56x66 .f32) : Vec Ideal S2x65x11x11x56x56 .f32 :=
  (concatenate S2x65x11x11x56x56 3 [⟨S2x65x11x1x56x56, ((broadcastInDim S2x65x11x1x56x56 ![0, 1, 2, 4, 5] bcast_S2x65x11x56x56_S2x65x11x1x56x56_0_1_2_4_5 (extractStridedSlice S2x65x11x56x56 ![0, 0, 0, 0, 0] (y) slices_S2x65x11x56x66_S2x65x11x56x56_0_0_0_0_0)) : (⟨S2x65x11x1x56x56, .f32⟩ : BufTy).Contents (Elt Ideal))⟩, ⟨S2x65x11x1x56x56, ((broadcastInDim S2x65x11x1x56x56 ![0, 1, 2, 4, 5] bcast_S2x65x11x56x56_S2x65x11x1x56x56_0_1_2_4_5 (extractStridedSlice S2x65x11x56x56 ![0, 0, 0, 0, 1] (y) slices_S2x65x11x56x66_S2x65x11x56x56_0_0_0_0_1)) : (⟨S2x65x11x1x56x56, .f32⟩ : BufTy).Contents (Elt Ideal))⟩, ⟨S2x65x11x1x56x56, ((broadcastInDim S2x65x11x1x56x56 ![0, 1, 2, 4, 5] bcast_S2x65x11x56x56_S2x65x11x1x56x56_0_1_2_4_5 (extractStridedSlice S2x65x11x56x56 ![0, 0, 0, 0, 2] (y) slices_S2x65x11x56x66_S2x65x11x56x56_0_0_0_0_2)) : (⟨S2x65x11x1x56x56, .f32⟩ : BufTy).Contents (Elt Ideal))⟩, ⟨S2x65x11x1x56x56, ((broadcastInDim S2x65x11x1x56x56 ![0, 1, 2, 4, 5] bcast_S2x65x11x56x56_S2x65x11x1x56x56_0_1_2_4_5 (extractStridedSlice S2x65x11x56x56 ![0, 0, 0, 0, 3] (y) slices_S2x65x11x56x66_S2x65x11x56x56_0_0_0_0_3)) : (⟨S2x65x11x1x56x56, .f32⟩ : BufTy).Contents (Elt Ideal))⟩, ⟨S2x65x11x1x56x56, ((broadcastInDim S2x65x11x1x56x56 ![0, 1, 2, 4, 5] bcast_S2x65x11x56x56_S2x65x11x1x56x56_0_1_2_4_5 (extractStridedSlice S2x65x11x56x56 ![0, 0, 0, 0, 4] (y) slices_S2x65x11x56x66_S2x65x11x56x56_0_0_0_0_4)) : (⟨S2x65x11x1x56x56, .f32⟩ : BufTy).Contents (Elt Ideal))⟩, ⟨S2x65x11x1x56x56, ((broadcastInDim S2x65x11x1x56x56 ![0, 1, 2, 4, 5] bcast_S2x65x11x56x56_S2x65x11x1x56x56_0_1_2_4_5 (extractStridedSlice S2x65x11x56x56 ![0, 0, 0, 0, 5] (y) slices_S2x65x11x56x66_S2x65x11x56x56_0_0_0_0_5)) : (⟨S2x65x11x1x56x56, .f32⟩ : BufTy).Contents (Elt Ideal))⟩, ⟨S2x65x11x1x56x56, ((broadcastInDim S2x65x11x1x56x56 ![0, 1, 2, 4, 5] bcast_S2x65x11x56x56_S2x65x11x1x56x56_0_1_2_4_5 (extractStridedSlice S2x65x11x56x56 ![0, 0, 0, 0, 6] (y) slices_S2x65x11x56x66_S2x65x11x56x56_0_0_0_0_6)) : (⟨S2x65x11x1x56x56, .f32⟩ : BufTy).Contents (Elt Ideal))⟩, ⟨S2x65x11x1x56x56, ((broadcastInDim S2x65x11x1x56x56 ![0, 1, 2, 4, 5] bcast_S2x65x11x56x56_S2x65x11x1x56x56_0_1_2_4_5 (extractStridedSlice S2x65x11x56x56 ![0, 0, 0, 0, 7] (y) slices_S2x65x11x56x66_S2x65x11x56x56_0_0_0_0_7)) : (⟨S2x65x11x1x56x56, .f32⟩ : BufTy).Contents (Elt Ideal))⟩, ⟨S2x65x11x1x56x56, ((broadcastInDim S2x65x11x1x56x56 ![0, 1, 2, 4, 5] bcast_S2x65x11x56x56_S2x65x11x1x56x56_0_1_2_4_5 (extractStridedSlice S2x65x11x56x56 ![0, 0, 0, 0, 8] (y) slices_S2x65x11x56x66_S2x65x11x56x56_0_0_0_0_8)) : (⟨S2x65x11x1x56x56, .f32⟩ : BufTy).Contents (Elt Ideal))⟩, ⟨S2x65x11x1x56x56, ((broadcastInDim S2x65x11x1x56x56 ![0, 1, 2, 4, 5] bcast_S2x65x11x56x56_S2x65x11x1x56x56_0_1_2_4_5 (extractStridedSlice S2x65x11x56x56 ![0, 0, 0, 0, 9] (y) slices_S2x65x11x56x66_S2x65x11x56x56_0_0_0_0_9)) : (⟨S2x65x11x1x56x56, .f32⟩ : BufTy).Contents (Elt Ideal))⟩, ⟨S2x65x11x1x56x56, ((broadcastInDim S2x65x11x1x56x56 ![0, 1, 2, 4, 5] bcast_S2x65x11x56x56_S2x65x11x1x56x56_0_1_2_4_5 (extractStridedSlice S2x65x11x56x56 ![0, 0, 0, 0, 10] (y) slices_S2x65x11x56x66_S2x65x11x56x56_0_0_0_0_10)) : (⟨S2x65x11x1x56x56, .f32⟩ : BufTy).Contents (Elt Ideal))⟩] concatenates_S2x65x11x1x56x56_S2x65x11x1x56x56_S2x65x11x1x56x56_S2x65x11x1x56x56_S2x65x11x1x56x56_S2x65x11x1x56x56_S2x65x11x1x56x56_S2x65x11x1x56x56_S2x65x11x1x56x56_S2x65x11x1x56x56_S2x65x11x1x56x56_S2x65x11x11x56x56_d3 : (⟨S2x65x11x11x56x56, .f32⟩ : BufTy).Contents (Elt Ideal))

/-- The 121 shifts of every channel, side by side. -/
def runf (y : Vec Ideal S2x65x66x66 .f32) : Vec Ideal S2x65x121x56x56 .f32 :=
  shapeCast S2x65x121x56x56 (rcols11 (rrows11 y)) shapeCasts_S2x65x11x11x56x56_S2x65x121x56x56

/-- The shifted keys times the shifted mask. -/
def rkw (u : Vec Ideal S2x65x121x56x56 .f32) : Vec Ideal S2x4x8x121x3136 .f32 :=
  mulf (F := Ideal) (φ := .f32) (shapeCast S2x4x8x121x3136 (extractStridedSlice S2x32x121x56x56 ![0, 0, 0, 0, 0] (u) slices_S2x65x121x56x56_S2x32x121x56x56_0_0_0_0_0) shapeCasts_S2x32x121x56x56_S2x4x8x121x3136) (broadcastInDim S2x4x8x121x3136 ![0, 1, 2, 3, 4] bcast_S2x1x1x121x3136_S2x4x8x121x3136_0_1_2_3_4 (shapeCast S2x1x1x121x3136 (extractStridedSlice S2x1x121x56x56 ![0, 64, 0, 0, 0] (u) slices_S2x65x121x56x56_S2x1x121x56x56_0_64_0_0_0) shapeCasts_S2x1x121x56x56_S2x1x1x121x3136))

/-- The shifted values times the shifted mask. -/
def rvw (u : Vec Ideal S2x65x121x56x56 .f32) : Vec Ideal S2x4x8x121x3136 .f32 :=
  mulf (F := Ideal) (φ := .f32) (shapeCast S2x4x8x121x3136 (extractStridedSlice S2x32x121x56x56 ![0, 32, 0, 0, 0] (u) slices_S2x65x121x56x56_S2x32x121x56x56_0_32_0_0_0) shapeCasts_S2x32x121x56x56_S2x4x8x121x3136) (broadcastInDim S2x4x8x121x3136 ![0, 1, 2, 3, 4] bcast_S2x1x1x121x3136_S2x4x8x121x3136_0_1_2_3_4 (shapeCast S2x1x1x121x3136 (extractStridedSlice S2x1x121x56x56 ![0, 64, 0, 0, 0] (u) slices_S2x65x121x56x56_S2x1x121x56x56_0_64_0_0_0) shapeCasts_S2x1x121x56x56_S2x1x1x121x3136))

/-- The logits. -/
def rlog (q : Vec Ideal S2x4x8x3136 .f32) (k : Vec Ideal S2x4x8x121x3136 .f32) (b : Vec Ideal S4x121 .f32) : Vec Ideal S2x4x121x3136 .f32 :=
  addf (F := Ideal) (φ := .f32) (mulf (F := Ideal) (φ := .f32) (Host.reduceAdd (F := Ideal) (φ := .f32) (mulf (F := Ideal) (φ := .f32) (broadcastInDim S2x4x8x121x3136 ![0, 1, 2, 3, 4] bcast_S2x4x8x1x3136_S2x4x8x121x3136_0_1_2_3_4 (broadcastInDim S2x4x8x1x3136 ![0, 1, 2, 4] bcast_S2x4x8x3136_S2x4x8x1x3136_0_1_2_4 (q))) (k)) (constant (F := Ideal) S_ .f32 0x00000000#32) reducesTo_S2x4x8x121x3136_S2x4x121x3136_d2 h_S_) (broadcastInDim S2x4x121x3136 ![] bcast_S_S2x4x121x3136 (constant (F := Ideal) S_ .f32 0x3EB504F3#32))) (broadcastInDim S2x4x121x3136 ![0, 1, 2, 3] bcast_S1x4x121x1_S2x4x121x3136_0_1_2_3 (broadcastInDim S1x4x121x1 ![1, 2] bcast_S4x121_S1x4x121x1_1_2 (b)))

/-- The largest logit. -/
def rred (l : Vec Ideal S2x4x121x3136 .f32) : Vec Ideal S2x4x3136 .f32 :=
  Host.reduce (FloatOps.maximumf : Ideal .f32 → Ideal .f32 → Ideal .f32) (l) (constant (F := Ideal) S_ .f32 0xFF800000#32) reducesTo_S2x4x121x3136_S2x4x3136_d2 h_S_

/-- The largest logit, at least minus infinity. -/
def rtop (l : Vec Ideal S2x4x121x3136 .f32) : Vec Ideal S2x4x3136 .f32 :=
  maximumf (F := Ideal) (φ := .f32) (broadcastInDim S2x4x3136 ![] bcast_S_S2x4x3136 (constant (F := Ideal) S_ .f32 0xFF800000#32)) (rred l)

/-- The exponentials of the differences from the largest. -/
def rexp (l : Vec Ideal S2x4x121x3136 .f32) (t : Vec Ideal S2x4x3136 .f32) : Vec Ideal S2x4x121x3136 .f32 :=
  Host.exp (F := Ideal) (φ := .f32) (subf (F := Ideal) (φ := .f32) (l) (broadcastInDim S2x4x121x3136 ![0, 1, 2, 3] bcast_S2x4x1x3136_S2x4x121x3136_0_1_2_3 (broadcastInDim S2x4x1x3136 ![0, 1, 3] bcast_S2x4x3136_S2x4x1x3136_0_1_3 (t))))

/-- The weights. -/
def rattn (e : Vec Ideal S2x4x121x3136 .f32) : Vec Ideal S2x4x121x3136 .f32 :=
  Host.divf (F := Ideal) (φ := .f32) (e) (broadcastInDim S2x4x121x3136 ![0, 1, 2, 3] bcast_S2x4x1x3136_S2x4x121x3136_0_1_2_3 (broadcastInDim S2x4x1x3136 ![0, 1, 3] bcast_S2x4x3136_S2x4x1x3136_0_1_3 (Host.reduceAdd (F := Ideal) (φ := .f32) (e) (constant (F := Ideal) S_ .f32 0x00000000#32) reducesTo_S2x4x121x3136_S2x4x3136_d2 h_S_)))

/-- The weighted sums of the values. -/
def rmix (a : Vec Ideal S2x4x121x3136 .f32) (v : Vec Ideal S2x4x8x121x3136 .f32) : Vec Ideal S2x4x8x3136 .f32 :=
  Host.reduceAdd (F := Ideal) (φ := .f32) (mulf (F := Ideal) (φ := .f32) (broadcastInDim S2x4x8x121x3136 ![0, 1, 2, 3, 4] bcast_S2x4x1x121x3136_S2x4x8x121x3136_0_1_2_3_4 (broadcastInDim S2x4x1x121x3136 ![0, 1, 3, 4] bcast_S2x4x121x3136_S2x4x1x121x3136_0_1_3_4 (a))) (v)) (constant (F := Ideal) S_ .f32 0x00000000#32) reducesTo_S2x4x8x121x3136_S2x4x8x3136_d3 h_S_

/-- One where the mask is zero. -/
def rlow (b : Vec Ideal S2x1x56x56 .f32) : Vec Ideal S2x3136 .f32 :=
  uitofp (F := Ideal) .f32 (cmpf (F := Ideal) (φ := .f32) .olt (shapeCast S2x3136 (b) shapeCasts_S2x1x56x56_S2x3136) (broadcastInDim S2x3136 ![] bcast_S_S2x3136 (constant (F := Ideal) S_ .f32 0x3F000000#32)))

/-- The weighted sums where the mask is zero. -/
def rlowmix (y : Vec Ideal S2x4x8x3136 .f32) (l : Vec Ideal S2x3136 .f32) : Vec Ideal S2x32x56x56 .f32 :=
  shapeCast S2x32x56x56 (mulf (F := Ideal) (φ := .f32) (shapeCast S2x32x3136 (y) shapeCasts_S2x4x8x3136_S2x32x3136) (broadcastInDim S2x32x3136 ![0, 1, 2] bcast_S2x1x3136_S2x32x3136_0_1_2 (broadcastInDim S2x1x3136 ![0, 2] bcast_S2x3136_S2x1x3136_0_2 (l)))) shapeCasts_S2x32x3136_S2x32x56x56

/-- The projection and its bias. -/
def rproj (y : Vec Ideal S2x32x56x56 .f32) (w : Vec Ideal S32x32x1x1 .f32) (b : Vec Ideal S32 .f32) : Vec Ideal S2x32x56x56 .f32 :=
  addf (F := Ideal) (φ := .f32) (transpose S2x32x56x56 [0, 3, 1, 2] (Host.dotGeneral (F := Ideal) (φ₁ := .f32) (φ₂ := .f32) dot_S2x32x56x56_S32x32_S2x56x56x32_1_1_023_0_n_n none (y) (shapeCast S32x32 (w) shapeCasts_S32x32x1x1_S32x32)) transposes_S2x56x56x32_S2x32x56x56_0_3_1_2) (broadcastInDim S2x32x56x56 ![0, 1, 2, 3] bcast_S1x32x1x1_S2x32x56x56_0_1_2_3 (broadcastInDim S1x32x1x1 ![1] bcast_S32_S1x32x1x1_1 (b)))

/-- The image plus the projection where the mask is zero. -/
def rsum (x : Vec Ideal S2x32x56x56 .f32) (y : Vec Ideal S2x32x56x56 .f32) (l : Vec Ideal S2x3136 .f32) : Vec Ideal S2x32x56x56 .f32 :=
  addf (F := Ideal) (φ := .f32) (x) (mulf (F := Ideal) (φ := .f32) (y) (broadcastInDim S2x32x56x56 ![0, 1, 2, 3] bcast_S2x1x56x56_S2x32x56x56_0_1_2_3 (shapeCast S2x1x56x56 (l) shapeCasts_S2x3136_S2x1x56x56)))

/-- The logits of an image and its mask. -/
def rlogits (x : Vec Ideal S2x32x56x56 .f32) (mk : Vec Ideal S2x1x56x56 .f32) (w : Vec Ideal S96x32x1x1 .f32) (e : Vec Ideal S4x121 .f32) : Vec Ideal S2x4x121x3136 .f32 :=
  rlog (rq (rqkv x w)) (rkw (runf (rcat (rk (rqkv x w)) (rv (rqkv x w)) (rbit mk)))) e

/-- The feature map of an image and its mask. -/
def rfeat (x : Vec Ideal S2x32x56x56 .f32) (mk : Vec Ideal S2x1x56x56 .f32) (w : Vec Ideal S96x32x1x1 .f32) (p : Vec Ideal S32x32x1x1 .f32) (b : Vec Ideal S32 .f32)
    (e : Vec Ideal S4x121 .f32) : Vec Ideal S2x32x56x56 .f32 :=
  rsum x (rproj (rlowmix (rmix (rattn (rexp (rlogits x mk w e) (rtop (rlogits x mk w e)))) (rvw (runf (rcat (rk (rqkv x w)) (rv (rqkv x w)) (rbit mk)))))
    (rlow (rbit mk))) p b) (rlow (rbit mk))

section At

theorem rqkv_at (x : Vec Ideal S2x32x56x56 .f32) (w : Vec Ideal S96x32x1x1 .f32) (a : Fin 2) (o : Fin 96) (h q : Fin 56) :
    rqkv x w (ix4 a o h q) = ∑ k : Fin 32, x (ix4 a k h q) * w (ix4 o k 0 0) := by
  pointwise [rqkv]

theorem rq_at (t : Vec Ideal S2x96x56x56 .f32) (a : Fin 2) (n : Fin 4) (k : Fin 8) (l : Fin 3136) :
    rq t (ix4 a n k l) = t (ix4 a ⟨n * 8 + k, by omega⟩ ⟨l / 56, by omega⟩ ⟨l % 56, by omega⟩) := by
  pointwise [rq]

theorem rk_at (t : Vec Ideal S2x96x56x56 .f32) (a : Fin 2) (k : Fin 32) (h q : Fin 56) :
    rk t (ix4 a k h q) = t (ix4 a ⟨32 + k, by omega⟩ h q) := by
  pointwise [rk]
  congr 2
  apply Fin.ext
  dsimp only
  omega

theorem rv_at (t : Vec Ideal S2x96x56x56 .f32) (a : Fin 2) (k : Fin 32) (h q : Fin 56) :
    rv t (ix4 a k h q) = t (ix4 a ⟨64 + k, by omega⟩ h q) := by
  pointwise [rv]
  congr 2
  apply Fin.ext
  dsimp only
  omega

theorem rbit_at (y : Vec Ideal S2x1x56x56 .f32) (a : Fin 2) (o : Fin 1) (h q : Fin 56) : rbit y (ix4 a o h q) = bit (y (ix4 a o h q)) := by
  pointwise [rbit]
  unfold bit
  show (((BitVec.ofBool _).toNat : ℝ) : EReal) = _
  split_ifs with hc <;> simp [hc]

theorem rcat_at (k v : Vec Ideal S2x32x56x56 .f32) (b : Vec Ideal S2x1x56x56 .f32) (K V : ℕ → ℕ → ℕ → ℕ → EReal) (M : ℕ → ℕ → ℕ → EReal)
    (hk : ∀ a c h q, k (ix4 a c h q) = K a c h q) (hv : ∀ a c h q, v (ix4 a c h q) = V a c h q) (hb : ∀ a c h q, b (ix4 a c h q) = M a h q)
    (a : Fin 2) (c : Fin 65) (h q : Fin 66) :
    rcat k v b (ix4 a c h q) = padf 5 56 (fun h q => if c.val < 32 then K a c h q else if c.val < 64 then V a (c.val - 32) h q else M a h q) h q := by
  pointwise [rcat]
  rw [sitofp_zero]
  simp only [hk, hv, hb, padf]
  split_ifs <;> first | rfl | omega

theorem rrows11_at (y : Vec Ideal S2x65x66x66 .f32) (a : Fin 2) (k : Fin 65) (i : Fin 11) (h : Fin 56) (w : Fin 66) :
    rrows11 y (ix5 a k i h w) = y (ix4 a k ⟨i + h, by omega⟩ w) := by
  fin_cases i <;> pointwise [rrows11]

theorem rcols11_at (y : Vec Ideal S2x65x11x56x66 .f32) (a : Fin 2) (k : Fin 65) (i : Fin 11) (j : Fin 11) (h : Fin 56) (w : Fin 56) :
    rcols11 y (ix6 a k i j h w) = y (ix5 a k i h ⟨j + w, by omega⟩) := by
  fin_cases j <;> pointwise [rcols11]

theorem runf_at (y : Vec Ideal S2x65x66x66 .f32) (a : Fin 2) (k : Fin 65) (d : Fin 121) (h : Fin 56) (w : Fin 56) :
    runf y (ix5 a k d h w) = y (ix4 a k ⟨d / 11 + h, by omega⟩ ⟨d % 11 + w, by omega⟩) := by
  unfold runf
  generalize hz : rcols11 (rrows11 y) = z
  pointwise
  rw [← hz, rcols11_at, rrows11_at]

theorem rkw_at (u : Vec Ideal S2x65x121x56x56 .f32) (a : Fin 2) (n : Fin 4) (k : Fin 8) (d : Fin 121) (l : Fin 3136) :
    rkw u (ix5 a n k d l) = u (ix5 a ⟨n * 8 + k, by omega⟩ d ⟨l / 56, by omega⟩ ⟨l % 56, by omega⟩) * u (ix5 a 64 d ⟨l / 56, by omega⟩ ⟨l % 56, by omega⟩) := by
  pointwise [rkw]

theorem rvw_at (u : Vec Ideal S2x65x121x56x56 .f32) (a : Fin 2) (n : Fin 4) (k : Fin 8) (d : Fin 121) (l : Fin 3136) :
    rvw u (ix5 a n k d l) = u (ix5 a ⟨32 + (n * 8 + k), by omega⟩ d ⟨l / 56, by omega⟩ ⟨l % 56, by omega⟩) * u (ix5 a 64 d ⟨l / 56, by omega⟩ ⟨l % 56, by omega⟩) := by
  pointwise [rvw]

theorem rlog_at (q : Vec Ideal S2x4x8x3136 .f32) (k : Vec Ideal S2x4x8x121x3136 .f32) (b : Vec Ideal S4x121 .f32) (a : Fin 2) (n : Fin 4) (d : Fin 121) (l : Fin 3136) :
    rlog q k b (ix4 a n d l) = (∑ c : Fin 8, q (ix4 a n c l) * k (ix5 a n c d l)) * scale + b (ix2 n d) := by
  pointwise [rlog]
  rfl

theorem rexp_at (t : Vec Ideal S2x4x121x3136 .f32) (m : Vec Ideal S2x4x3136 .f32) (a : Fin 2) (n : Fin 4) (d : Fin 121) (l : Fin 3136) :
    rexp t m (ix4 a n d l) = Ideal.exp (t (ix4 a n d l) - m (ix3 a n l)) := by
  pointwise [rexp]

theorem rattn_at (t : Vec Ideal S2x4x121x3136 .f32) (a : Fin 2) (n : Fin 4) (d : Fin 121) (l : Fin 3136) :
    rattn t (ix4 a n d l) = Ideal.div (t (ix4 a n d l)) (∑ x : Fin 121, t (ix4 a n x l)) := by
  pointwise [rattn]

theorem rmix_at (t : Vec Ideal S2x4x121x3136 .f32) (v : Vec Ideal S2x4x8x121x3136 .f32) (a : Fin 2) (n : Fin 4) (k : Fin 8) (l : Fin 3136) :
    rmix t v (ix4 a n k l) = ∑ d : Fin 121, t (ix4 a n d l) * v (ix5 a n k d l) := by
  pointwise [rmix]

theorem rlow_at (b : Vec Ideal S2x1x56x56 .f32) (a : Fin 2) (l : Fin 3136) :
    rlow b (ix2 a l) = if b (ix4 a 0 ⟨l / 56, by omega⟩ ⟨l % 56, by omega⟩) < Ideal.ofBits .f32 0x3F000000#32 then 1 else 0 := by
  pointwise [rlow]
  show (((BitVec.ofBool _).toNat : ℝ) : EReal) = _
  split_ifs with hc <;> simp [hc]

theorem rlowmix_at (y : Vec Ideal S2x4x8x3136 .f32) (l : Vec Ideal S2x3136 .f32) (a : Fin 2) (k : Fin 32) (h q : Fin 56) :
    rlowmix y l (ix4 a k h q) = y (ix4 a ⟨k / 8, by omega⟩ ⟨k % 8, by omega⟩ ⟨h * 56 + q, by omega⟩) * l (ix2 a ⟨h * 56 + q, by omega⟩) := by
  pointwise [rlowmix]

theorem rproj_at (y : Vec Ideal S2x32x56x56 .f32) (w : Vec Ideal S32x32x1x1 .f32) (b : Vec Ideal S32 .f32) (a : Fin 2) (o : Fin 32) (h q : Fin 56) :
    rproj y w b (ix4 a o h q) = (∑ k : Fin 32, y (ix4 a k h q) * w (ix4 o k 0 0)) + b (ix1 o) := by
  pointwise [rproj]

theorem rsum_at (x y : Vec Ideal S2x32x56x56 .f32) (l : Vec Ideal S2x3136 .f32) (a : Fin 2) (k : Fin 32) (h q : Fin 56) :
    rsum x y l (ix4 a k h q) = x (ix4 a k h q) + y (ix4 a k h q) * l (ix2 a ⟨h * 56 + q, by omega⟩) := by
  pointwise [rsum]

theorem rred_at (t : Vec Ideal S2x4x121x3136 .f32) (a : Fin 2) (n : Fin 4) (l : Fin 3136) :
    rred t (ix3 a n l) = Finset.fold max (Ideal.ofBits .f32 0xFF800000#32) (fun d : Fin 121 => t (ix4 a n d l)) Finset.univ := by
  unfold rred
  simp only [pointwise]

end At

end Cert.ReferenceIdeal.Gen
end
-- ==== Proof.RFeatVal.lean ====
/- The reference's feature map as one function of its arguments' values. -/
module

public import proofs.«01_k».proof.Proof.RFeat

@[expose] public section

set_option maxRecDepth 16384

noncomputable section

namespace Cert.ReferenceIdeal.Gen
open Cert.Spec Idealize.ShloMosaic Cert.ReferenceIdeal

section At

/-- The fold that gives the largest logit already starts at minus infinity. -/
theorem max_top (f : ℕ → EReal) : max (Ideal.ofBits .f32 0xFF800000#32) (top f) = top f :=
  max_eq_right ((Finset.le_fold_max _).2 (Or.inl le_rfl))

theorem rred_val (t : Vec Ideal S2x4x121x3136 .f32) (a : Fin 2) (n : Fin 4) (l : Fin 3136) (f : ℕ → EReal) (hf : ∀ d : Fin 121, t (ix4 a n d l) = f d) :
    rred t (ix3 a n l) = top f := by
  rw [rred_at, funext hf]
  unfold top
  with_reducible rfl

/-- The larger of a constant and an array, read at an index. -/
theorem maxConst_at (y : Vec Ideal S2x4x3136 .f32) (a : Fin 2) (n : Fin 4) (l : Fin 3136) :
    maximumf (F := Ideal) (φ := .f32) (broadcastInDim S2x4x3136 ![] bcast_S_S2x4x3136 (constant (F := Ideal) S_ .f32 0xFF800000#32)) y (ix3 a n l)
      = max (Ideal.ofBits .f32 0xFF800000#32) (y (ix3 a n l)) := by
  pointwise

theorem rtop_at (t : Vec Ideal S2x4x121x3136 .f32) (a : Fin 2) (n : Fin 4) (l : Fin 3136) (f : ℕ → EReal) (hf : ∀ d : Fin 121, t (ix4 a n d l) = f d) :
    rtop t (ix3 a n l) = top f :=
  (maxConst_at (rred t) a n l).trans ((congrArg (max (Ideal.ofBits .f32 0xFF800000#32)) (rred_val t a n l f hf)).trans (max_top f))

/-- The logits as the reference computes them: over the head's eight channels, the key times the mask, scaled after the sum. -/
def refScore (Q K : ℕ → ℕ → ℕ → EReal) (M : ℕ → ℕ → EReal) (E : ℕ → ℕ → EReal) (n h w d : ℕ) : EReal :=
  (∑ c : Fin 8, Q (n * 8 + c) h w * (padf 5 56 (K (n * 8 + c)) (d / 11 + h) (d % 11 + w) * padf 5 56 M (d / 11 + h) (d % 11 + w))) * scale + E n d

/-- The weights as the reference computes them: the exponential over the sum. -/
def refWeight (f : ℕ → EReal) (d : ℕ) : EReal := Ideal.div (Ideal.exp (f d - top f)) (∑ x : Fin 121, Ideal.exp (f x - top f))

/-- The weighted sum of the values as the reference computes it. -/
def refMix (V : ℕ → ℕ → ℕ → EReal) (M : ℕ → ℕ → EReal) (A : ℕ → ℕ → EReal) (c h w : ℕ) : EReal :=
  ∑ d : Fin 121, A (c / 8) d * (padf 5 56 (V c) (d / 11 + h) (d % 11 + w) * padf 5 56 M (d / 11 + h) (d % 11 + w))

/-- One where the mask is under one half. -/
def low (y : EReal) : EReal := if y < Ideal.ofBits .f32 0x3F000000#32 then 1 else 0

/-- The feature map as the reference computes it. -/
def refFeat (X : ℕ → ℕ → ℕ → EReal) (W : ℕ → ℕ → EReal) (M : ℕ → ℕ → EReal) (E : ℕ → ℕ → EReal) (P : ℕ → ℕ → EReal) (b : ℕ → EReal) (c h w : ℕ) : EReal :=
  X c h w + ((∑ k : Fin 32, refMix (fun c => proj W X (64 + c)) M
      (fun n d => refWeight (refScore (proj W X) (fun c => proj W X (32 + c)) M E n h w) d) k h w * low (M h w) * P c k) + b c) * low (M h w)

section Feature

variable (x : Vec Ideal S2x32x56x56 .f32) (mk : Vec Ideal S2x1x56x56 .f32) (w : Vec Ideal S96x32x1x1 .f32) (p : Vec Ideal S32x32x1x1 .f32) (b : Vec Ideal S32 .f32)
    (e : Vec Ideal S4x121 .f32)
    (X : ℕ → ℕ → ℕ → ℕ → EReal) (Y : ℕ → ℕ → ℕ → EReal) (W P : ℕ → ℕ → ℕ → ℕ → EReal) (B : ℕ → EReal) (E : ℕ → ℕ → EReal)
    (hx : ∀ a k h q, x (ix4 a k h q) = X a k h q) (hm : ∀ a o h q, mk (ix4 a o h q) = Y a h q) (hw : ∀ o k i j, w (ix4 o k i j) = W o k i j)
    (hp : ∀ o k i j, p (ix4 o k i j) = P o k i j) (hb : ∀ o, b (ix1 o) = B o) (he : ∀ n d, e (ix2 n d) = E n d)

include hx hw in
theorem qkv_val (a : Fin 2) (o : Fin 96) (h q : Fin 56) : rqkv x w (ix4 a o h q) = proj (fun o k => W o k 0 0) (X a) o h q := by
  rw [rqkv_at]
  unfold proj
  exact Finset.sum_congr rfl fun k _ => by rw [hx, hw, mul_comm]; rfl

include hx hw hm in
theorem unf_val (a : Fin 2) (c : Fin 65) (d : Fin 121) (h q : Fin 56) :
    runf (rcat (rk (rqkv x w)) (rv (rqkv x w)) (rbit mk)) (ix5 a c d h q)
      = padf 5 56 (fun h q => if c.val < 32 then proj (fun o k => W o k 0 0) (X a) (32 + c) h q
          else if c.val < 64 then proj (fun o k => W o k 0 0) (X a) (64 + (c.val - 32)) h q else bit (Y a h q)) (d / 11 + h) (d % 11 + q) := by
  rw [runf_at]
  exact rcat_at _ _ _ (fun a c h q => proj (fun o k => W o k 0 0) (X a) (32 + c) h q) (fun a c h q => proj (fun o k => W o k 0 0) (X a) (64 + c) h q)
    (fun a h q => bit (Y a h q)) (fun a c h q => by rw [rk_at, qkv_val x w X W hx hw]) (fun a c h q => by rw [rv_at, qkv_val x w X W hx hw])
    (fun a o h q => by rw [rbit_at, hm]) a c _ _

include hx hw hm he in
theorem logits_val (a : Fin 2) (n : Fin 4) (d : Fin 121) (l : Fin 3136) :
    rlogits x mk w e (ix4 a n d l) = refScore (proj (fun o k => W o k 0 0) (X a)) (fun c => proj (fun o k => W o k 0 0) (X a) (32 + c)) (fun h q => bit (Y a h q)) E
      n (l.val / 56) (l.val % 56) d := by
  unfold rlogits refScore
  rw [rlog_at, he]
  congr 2
  refine Finset.sum_congr rfl fun c _ => ?_
  rw [rq_at, qkv_val x w X W hx hw, rkw_at, unf_val x mk w X Y W hx hm hw, unf_val x mk w X Y W hx hm hw]
  have e1 : n.val * 8 + c.val < 32 := by omega
  simp [e1]

include hx hw hm hp hb he in
theorem rfeat_at (a : Fin 2) (c : Fin 32) (h q : Fin 56) :
    rfeat x mk w p b e (ix4 a c h q) = refFeat (X a) (fun o k => W o k 0 0) (fun h q => bit (Y a h q)) E (fun o k => P o k 0 0) B c h q := by
  have hl := logits_val x mk w e X Y W E hx hm hw he
  have hu := unf_val x mk w X Y W hx hm hw
  have hlow : ∀ (h' : (h.val * 56 + q.val) < 3136), rlow (rbit mk) (ix2 a ⟨h.val * 56 + q.val, h'⟩) = low (bit (Y a h q)) := by
    intro h'
    rw [rlow_at, rbit_at, hm]
    simp only [show (h.val * 56 + q.val) / 56 = h by omega, show (h.val * 56 + q.val) % 56 = q by omega]
    rfl
  unfold rfeat refFeat
  generalize rlogits x mk w e = t at hl ⊢
  generalize runf (rcat (rk (rqkv x w)) (rv (rqkv x w)) (rbit mk)) = u at hu ⊢
  rw [rsum_at, hx, hlow, rproj_at, hb]
  congr 3
  refine Finset.sum_congr rfl fun k _ => ?_
  rw [hp, rlowmix_at, hlow, rmix_at]
  congr 2
  unfold refMix
  refine Finset.sum_congr rfl fun d _ => ?_
  rw [rattn_at, rvw_at, hu, hu]
  unfold refWeight
  have ht : ∀ d : Fin 121, rexp t (rtop t) (ix4 a ⟨k / 8, by omega⟩ d ⟨h * 56 + q, by omega⟩)
      = Ideal.exp (refScore (proj (fun o k => W o k 0 0) (X a)) (fun c => proj (fun o k => W o k 0 0) (X a) (32 + c)) (fun h q => bit (Y a h q)) E (k.val / 8) h q d
        - top (refScore (proj (fun o k => W o k 0 0) (X a)) (fun c => proj (fun o k => W o k 0 0) (X a) (32 + c)) (fun h q => bit (Y a h q)) E (k.val / 8) h q)) := by
    intro d
    have e2 : ∀ d : Fin 121, t (ix4 a ⟨k / 8, by omega⟩ d ⟨h * 56 + q, by omega⟩)
      = refScore (proj (fun o k => W o k 0 0) (X a)) (fun c => proj (fun o k => W o k 0 0) (X a) (32 + c)) (fun h q => bit (Y a h q)) E (k.val / 8) h q d := by
      intro d
      rw [hl]
      simp only [show (h.val * 56 + q.val) / 56 = h by omega, show (h.val * 56 + q.val) % 56 = q by omega]
    rw [rexp_at, rtop_at t _ _ _ _ e2, e2]
  simp only [ht, show (h.val * 56 + q.val) / 56 = h by omega, show (h.val * 56 + q.val) % 56 = q by omega]
  have e3 : k.val / 8 * 8 + k.val % 8 = k.val := by omega
  have e4 : 32 + k.val < 64 := by omega
  simp [e3, e4]

end Feature

end At

end Cert.ReferenceIdeal.Gen
end
-- ==== Proof.Equation.lean ====
/- The values of the two programs agree where the inputs the exponential and the normalization meet are finite. -/
module

public import proofs.«01_k».proof.Proof.KHost
public import proofs.«01_k».proof.Proof.RMask
public import proofs.«01_k».proof.Proof.RFeatVal

@[expose] public section

noncomputable section

namespace Cert.Proof

open Cert.Spec Idealize.ShloMosaic
open Cert.KernelIdeal.Gen (kbn)
open Cert.ReferenceIdeal.Gen (refBn refScore refWeight refMix refFeat low)

/-- A value that is neither infinity. -/
def Fine (x : EReal) : Prop := ∃ r : ℝ, x = r

theorem Fine.zero : Fine 0 := ⟨0, rfl⟩
theorem Fine.one : Fine 1 := ⟨1, rfl⟩
theorem Fine.add {x y : EReal} : Fine x → Fine y → Fine (x + y) := by
  rintro ⟨a, rfl⟩ ⟨b, rfl⟩; exact ⟨a + b, (EReal.coe_add a b).symm⟩
theorem Fine.mul {x y : EReal} : Fine x → Fine y → Fine (x * y) := by
  rintro ⟨a, rfl⟩ ⟨b, rfl⟩; exact ⟨a * b, (EReal.coe_mul a b).symm⟩
theorem Fine.sum {ι : Type} (s : Finset ι) (f : ι → EReal) (h : ∀ i, Fine (f i)) : Fine (∑ i ∈ s, f i) := by
  classical
  induction s using Finset.induction_on with
  | empty => exact ⟨0, by simp⟩
  | insert a s ha ih => rw [Finset.sum_insert ha]; exact (h a).add ih
theorem Fine.padf {p n : ℕ} {f : ℕ → ℕ → EReal} (h : ∀ r c, Fine (f r c)) (r c : ℕ) : Fine (padf p n f r c) := by
  unfold Spec.padf; split
  · exact h _ _
  · exact .zero
theorem Fine.proj {w : ℕ → ℕ → EReal} {x : ℕ → ℕ → ℕ → EReal} (hw : ∀ o k, Fine (w o k)) (hx : ∀ k h q, Fine (x k h q)) (o h q : ℕ) :
    Fine (proj w x o h q) := .sum _ _ fun k => (hw _ _).mul (hx _ _ _)

theorem half_eq : Ideal.ofBits .f32 0x3F000000#32 = (((1 : ℝ) / 2 : ℝ) : EReal) := by
  simp [Ideal.ofBits, Ideal.ieee, -EReal.coe_mul]; norm_num

theorem scale_eq : scale = (((11863283 : ℝ) / 33554432 : ℝ) : EReal) := by
  unfold scale
  simp [Ideal.ofBits, Ideal.ieee, -EReal.coe_mul]; norm_num

theorem scale_fine : Fine scale := ⟨_, scale_eq⟩

theorem negInf_eq : Ideal.ofBits .f32 0xFF800000#32 = ⊥ := by
  simp [Ideal.ofBits, Ideal.ieee]

/-! The normalization -/

/-- A real factor distributes over the subtraction of a real number from any extended real. -/
theorem sub_mul_fine (y : EReal) (m k : ℝ) : (y - m) * k = y * k - m * k := by
  rcases lt_trichotomy k 0 with hk | rfl | hk
  · induction y with
    | bot => rw [EReal.bot_sub, EReal.bot_mul_coe_of_neg hk, ← EReal.coe_mul, EReal.top_sub_coe]
    | coe y => norm_cast; ring_nf
    | top => rw [EReal.top_sub_coe, EReal.top_mul_coe_of_neg hk, ← EReal.coe_mul, EReal.bot_sub]
  · simp
  · induction y with
    | bot => rw [EReal.bot_sub, EReal.bot_mul_coe_of_pos hk, ← EReal.coe_mul, EReal.bot_sub]
    | coe y => norm_cast; ring_nf
    | top => rw [EReal.top_sub_coe, EReal.top_mul_coe_of_pos hk, ← EReal.coe_mul, EReal.top_sub_coe]

theorem inv_fine (s : EReal) (h : s ≠ 0) : Fine s⁻¹ := by
  induction s with
  | bot => exact ⟨0, by simp⟩
  | coe s => exact ⟨s⁻¹, (EReal.coe_inv s).symm⟩
  | top => exact ⟨0, by simp⟩

theorem sqrt_ne (x : EReal) (h : x ≠ 0) : Ideal.sqrt x ≠ 0 := by
  induction x with
  | bot => exact h
  | coe x =>
    show (if x < 0 then ⊥ else (Real.sqrt x : EReal)) ≠ 0
    split
    · exact EReal.bot_ne_zero
    · have hx : 0 < x := lt_of_le_of_ne (not_lt.1 ‹_›) fun e => h (by rw [← e]; rfl)
      exact (EReal.coe_pos.2 (Real.sqrt_pos.2 hx)).ne'
  | top => exact h

theorem div_ne_eq (x s : EReal) (h : s ≠ 0) : Ideal.div x s = x * s⁻¹ := by
  unfold Ideal.div; rw [if_neg h]

/-- The factor and the shift give the normalization where the scale and the mean are finite and the root is of a nonzero number. -/
theorem bn_eq (gam bet mu vr : ℕ → EReal) (hg : ∀ c, Fine (gam c)) (hm : ∀ c, Fine (mu c)) (hv : ∀ c, vr c + Ideal.ofBits .f32 0x3727C5AC#32 ≠ 0) :
    kbn gam bet mu vr = refBn gam bet mu vr := by
  funext c y
  unfold kbn refBn
  have hs := sqrt_ne _ (hv c)
  rw [div_ne_eq _ _ hs, div_ne_eq _ _ hs]
  obtain ⟨i, hi⟩ := inv_fine _ hs
  obtain ⟨g, hg⟩ := hg c
  obtain ⟨m, hm⟩ := hm c
  rw [hi, hg, hm, mul_comm (g : EReal) (y - m), mul_assoc, ← EReal.coe_mul, sub_mul_fine, sub_eq_add_neg, sub_eq_add_neg, add_assoc, add_comm (bet c)]

/-! The mask's two values -/

/-- A value that is zero or one. -/
def Bin (x : EReal) : Prop := x = 0 ∨ x = 1

theorem Bin.bit (y : EReal) : Bin (bit y) := by
  unfold Spec.bit; split
  · exact .inr rfl
  · exact .inl rfl
theorem Bin.padf {p n : ℕ} {f : ℕ → ℕ → EReal} (h : ∀ r c, Bin (f r c)) (r c : ℕ) : Bin (padf p n f r c) := by
  unfold Spec.padf; split
  · exact h _ _
  · exact .inl rfl
theorem Bin.fine {x : EReal} : Bin x → Fine x := by
  rintro (rfl | rfl)
  · exact .zero
  · exact .one

theorem low_eq {x : EReal} (h : Bin x) : low x = 1 - x := by
  unfold low
  rw [half_eq]
  rcases h with rfl | rfl
  · rw [if_pos (by exact_mod_cast (by norm_num : (0 : ℝ) < 1 / 2))]; simp
  · rw [if_neg (by rw [not_lt]; exact_mod_cast (by norm_num : (1 : ℝ) / 2 ≤ 1))]
    exact (EReal.sub_self (EReal.coe_ne_top 1) (EReal.coe_ne_bot 1)).symm

/-! The logits -/

/-- A sum over all channels against a head's indicator is the sum over the head's eight channels. -/
theorem head_sum (f : ℕ → EReal) (n : ℕ) (hn : n < 4) : ∑ c : Fin 32, (if c.val / 8 = n then 1 else 0) * f c = ∑ c : Fin 8, f (n * 8 + c) := by
  interval_cases n <;> simp [Fin.sum_univ_succ]

/-- The two programs' logits agree for a mask of zeros and ones. -/
theorem score_eq (Q K : ℕ → ℕ → ℕ → EReal) (M : ℕ → ℕ → EReal) (E : ℕ → ℕ → EReal) (hM : ∀ h w, Bin (M h w)) (n h w d : ℕ) (hn : n < 4) :
    score Q K M (fun n r j => E n (r * 11 + j)) n h w (d / 11) (d % 11) = refScore Q K M E n h w d := by
  unfold score refScore
  show _ + E n (d / 11 * 11 + d % 11) = _
  rw [head_sum (fun c => Q c h w * padf 5 56 (K c) (h + d / 11) (w + d % 11)) n hn, add_comm h, add_comm w, show d / 11 * 11 + d % 11 = d by omega]
  rcases Bin.padf (p := 5) (n := 56) hM (d / 11 + h) (d % 11 + w) with e | e
  · simp [e]
  · simp [e]

theorem refScore_fine (Q K : ℕ → ℕ → ℕ → EReal) (M : ℕ → ℕ → EReal) (E : ℕ → ℕ → EReal) (hQ : ∀ c h w, Fine (Q c h w)) (hK : ∀ c h w, Fine (K c h w))
    (hM : ∀ h w, Fine (M h w)) (hE : ∀ n d, Fine (E n d)) (n h w d : ℕ) : Fine (refScore Q K M E n h w d) :=
  ((Fine.sum _ _ fun c => (hQ _ _ _).mul ((Fine.padf (hK _) _ _).mul (Fine.padf hM _ _))).mul scale_fine).add (hE _ _)

/-! The weights -/

theorem exp_nonneg (x : EReal) : 0 ≤ Ideal.exp x := by
  induction x with
  | bot => exact le_rfl
  | coe x => exact EReal.coe_nonneg.2 (Real.exp_pos x).le
  | top => exact le_top

theorem exp_pos (x : EReal) (h : x ≠ ⊥) : 0 < Ideal.exp x := by
  induction x with
  | bot => exact absurd rfl h
  | coe x => exact EReal.coe_pos.2 (Real.exp_pos x)
  | top => exact EReal.zero_lt_top

theorem top_lt (f : ℕ → EReal) (h : ∀ d, Fine (f d)) : top f < ⊤ := by
  unfold top
  rw [Finset.fold_max_lt, negInf_eq]
  refine ⟨bot_lt_top, fun d _ => ?_⟩
  obtain ⟨r, hr⟩ := h d
  rw [hr]; exact EReal.coe_lt_top r

/-- The exponentials of finite logits add up to more than zero. -/
theorem mass_pos (f : ℕ → EReal) (h : ∀ d, Fine (f d)) : 0 < ∑ x : Fin 121, Ideal.exp (f x - top f) := by
  refine lt_of_lt_of_le (exp_pos (f 0 - top f) ?_) (Finset.single_le_sum (f := fun x : Fin 121 => Ideal.exp (f x - top f)) (fun x _ => exp_nonneg _) (Finset.mem_univ (0 : Fin 121)))
  obtain ⟨r, hr⟩ := h 0
  have ht := top_lt f h
  rw [hr]
  generalize top f = t at ht
  induction t with
  | bot => simp
  | coe t => rw [← EReal.coe_sub]; exact EReal.coe_ne_bot _
  | top => exact absurd rfl ht.ne

/-- The two programs' weights agree on finite logits. -/
theorem weight_eq (f : ℕ → EReal) (h : ∀ d, Fine (f d)) (d : ℕ) : weight f d = refWeight f d := by
  unfold weight refWeight
  have hs := (mass_pos f h).ne'
  rw [div_ne_eq _ _ hs, div_ne_eq _ _ hs, one_mul]

theorem weight_congr (f g : ℕ → EReal) (h : ∀ d, f d = g d) (d : ℕ) : weight f d = weight g d := by rw [funext h]

/-! The weighted values -/

/-- The sum over rows and columns of shifts is the sum over all 121 shifts. -/
theorem mix_eq (V : ℕ → ℕ → ℕ → EReal) (M : ℕ → ℕ → EReal) (A : ℕ → ℕ → ℕ → EReal) (A' : ℕ → ℕ → EReal) (c h w : ℕ)
    (hA : ∀ r j, A (c / 8) r j = A' (c / 8) (r * 11 + j)) : mix V M A c h w = refMix V M A' c h w := by
  unfold mix refMix
  have e : ∀ f : ℕ → EReal, ∑ d : Fin 121, f d = ∑ r : Fin 11, ∑ j : Fin 11, f (r * 11 + j) := by
    intro f
    rw [← Finset.sum_product', ← (finProdFinEquiv (m := 11) (n := 11)).sum_comp (fun k : Fin 121 => f k)]
    refine Finset.sum_congr rfl fun p _ => ?_
    simp [finProdFinEquiv, add_comm, mul_comm]
  rw [e (fun d => A' (c / 8) d * (padf 5 56 (V c) (d / 11 + h) (d % 11 + w) * padf 5 56 M (d / 11 + h) (d % 11 + w)))]
  refine Finset.sum_congr rfl fun r _ => Finset.sum_congr rfl fun j _ => ?_
  simp only [hA, show (r.val * 11 + j.val) / 11 = r by omega, show (r.val * 11 + j.val) % 11 = j by omega, add_comm h, add_comm w]
  exact mul_left_comm _ _ _

/-- The two feature maps agree where the image, the weights of queries, keys and values, and the position bias are finite. -/
theorem feat_eq (X : ℕ → ℕ → ℕ → EReal) (W : ℕ → ℕ → EReal) (M : ℕ → ℕ → EReal) (E : ℕ → ℕ → EReal) (P : ℕ → ℕ → EReal) (b : ℕ → EReal)
    (hX : ∀ k h w, Fine (X k h w)) (hW : ∀ o k, Fine (W o k)) (hE : ∀ n d, Fine (E n d)) (hM : ∀ h w, Bin (M h w)) (c h w : ℕ) :
    feat X W M (fun n r j => E n (r * 11 + j)) P b c h w = refFeat X W M E P b c h w := by
  unfold feat refFeat
  rw [low_eq (hM h w)]
  congr 3
  refine Finset.sum_congr rfl fun k _ => ?_
  rw [mul_comm (P c k)]
  congr 2
  refine mix_eq _ _ _ _ _ _ _ fun r j => ?_
  have hk : k.val / 8 < 4 := by omega
  rw [weight_congr _ _ (fun d => score_eq _ _ M E hM _ h w d hk)]
  exact weight_eq _ (fun d => refScore_fine _ _ _ _ (fun o => .proj hW hX o) (fun o => .proj hW hX (32 + o)) (fun h w => (hM h w).fine) hE _ _ _ _) _

end Cert.Proof

end
-- ==== Proof.Tame.lean ====
/- What the precondition says of the values of the arguments. -/
module

public import proofs.«01_k».proof.Pre_tame
public import proofs.«01_k».proof.Proof.Equation
public import Idealize.ShloMosaic.Lib.ReduceAll

@[expose] public section

noncomputable section

namespace Cert.Proof

open Idealize.ShloMosaic Cert.Pre_tame

/-- The shape relations that the precondition's program states. -/
theorem tame_facts : Cert.Pre_tame.Facts where
  bcast_S_S2x32x56x56 := by decide
  reducesTo_S2x32x56x56_S_d0_1_2_3 := by decide
  h_S_ := by decide
  bcast_S_S32 := by decide
  reducesTo_S32_S_d0 := by decide
  bcast_S_S96x32x1x1 := by decide
  reducesTo_S96x32x1x1_S_d0_1_2_3 := by decide
  bcast_S_S4x121 := by decide
  reducesTo_S4x121_S_d0_1 := by decide

instance : Subsingleton S_.Idx := ⟨fun _ _ => funext fun k => k.elim0⟩

theorem inf_eq : Ideal.ofBits .f32 0x7F800000#32 = ⊤ := by
  simp [Ideal.ofBits, Ideal.ieee]

/-- A value whose size is under infinity is finite. -/
theorem fine_of_lt (x : EReal) (h : Ideal.cmp .olt (max x (-x)) (Ideal.ofBits .f32 0x7F800000#32) = 1#1) : Fine x := by
  rw [inf_eq] at h
  have h' : max x (-x) < ⊤ := by
    by_contra hn
    simp [Ideal.cmp, hn] at h
  induction x with
  | bot => simp at h'
  | coe x => exact ⟨x, rfl⟩
  | top => simp at h'

/-- Where every entry's size is under infinity, every entry is finite. -/
theorem all_fine {s : Shape} {axes : List (Fin s.rank)} (x : FVec Ideal s .f32) (hb : S_.BroadcastsInDim s (![] : Fin 0 → Fin s.rank)) (h : s.ReducesTo axes S_)
    (hu : 0 < S_.numel) (i : S_.Idx)
    (e : Host.reduce IntOp.andi (cmpf .olt (Host.absf x) (broadcastInDim s ![] hb (constant (F := Ideal) S_ .f32 0x7F800000#32))) (constantI S_ 1 1#1) h hu i = 1#1)
    (j : s.Idx) : Fine (x j) :=
  fine_of_lt _ (Host.reduce_andi_all _ _ h hu i e j)

/-- Where the comparison holds of every entry, no entry's sum with the constant is zero. -/
theorem all_ne (x : FVec Ideal S32 .f32) (hb : S_.BroadcastsInDim S32 (![] : Fin 0 → Fin S32.rank)) (h : S32.ReducesTo [0] S_)
    (hu : 0 < S_.numel) (i : S_.Idx)
    (e : Host.reduce IntOp.andi (cmpf .une (addf x (broadcastInDim S32 ![] hb (constant (F := Ideal) S_ .f32 0x3727C5AC#32)))
      (broadcastInDim S32 ![] hb (constant (F := Ideal) S_ .f32 0x00000000#32))) (constantI S_ 1 1#1) h hu i = 1#1)
    (j : S32.Idx) : x j + Ideal.ofBits .f32 0x3727C5AC#32 ≠ 0 := by
  have h' : Ideal.cmp .une (x j + Ideal.ofBits .f32 0x3727C5AC#32) (Ideal.ofBits .f32 0x00000000#32) = 1#1 := Host.reduce_andi_all _ _ h hu i e j
  rw [Ideal.ofBits_zero_f32] at h'
  intro hn
  simp [Ideal.cmp, hn] at h'

/-- The precondition, read as statements about the entries. -/
theorem tame_of [Cert.Pre_tame.Facts] (x0 x1 : FVec Ideal S2x32x56x56 .f32) (x2 : FVec Ideal S32x32x3x3 .f32) (x3 x4 x5 x6 : FVec Ideal S32 .f32)
    (x7 : FVec Ideal S32x32x3x3 .f32) (x8 : FVec Ideal S1x32x3x3 .f32) (x9 : FVec Ideal S96x32x1x1 .f32) (x10 : FVec Ideal S32x32x1x1 .f32)
    (x11 : FVec Ideal S32 .f32) (x12 : FVec Ideal S4x121 .f32)
    (e : Cert.Pre_tame.fn (F := Ideal) x0 x1 x2 x3 x4 x5 x6 x7 x8 x9 x10 x11 x12 = fun _ => 1#1) :
    (∀ j, Fine (x0 j)) ∧ (∀ j, Fine (x1 j)) ∧ (∀ j, Fine (x3 j)) ∧ (∀ j, Fine (x5 j)) ∧ (∀ j, Fine (x9 j)) ∧ (∀ j, Fine (x12 j))
      ∧ ∀ j, x6 j + Ideal.ofBits .f32 0x3727C5AC#32 ≠ 0 := by
  have e' := congrFun e (fun k => k.elim0)
  unfold Cert.Pre_tame.fn Cert.Pre_tame.fn_part1 Cert.Pre_tame.fn_part2 at e'
  obtain ⟨e5, h6⟩ := IntOp.andi_eq_one.1 e'
  obtain ⟨e4, h12⟩ := IntOp.andi_eq_one.1 e5
  obtain ⟨e3, h9⟩ := IntOp.andi_eq_one.1 e4
  obtain ⟨e2, h5⟩ := IntOp.andi_eq_one.1 e3
  obtain ⟨e1, h3⟩ := IntOp.andi_eq_one.1 e2
  obtain ⟨h0, h1⟩ := IntOp.andi_eq_one.1 e1
  exact ⟨all_fine x0 _ _ _ _ h0, all_fine x1 _ _ _ _ h1, all_fine x3 _ _ _ _ h3, all_fine x5 _ _ _ _ h5, all_fine x9 _ _ _ _ h9,
    all_fine x12 _ _ _ _ h12, all_ne x6 _ _ _ _ h6⟩

end Cert.Proof

end
-- ==== Proof.Frames.lean ====
/- The frames of the three programs, in the form that the claims state. -/
module

public import proofs.«01_k».proof.Defs
public import proofs.«01_k».proof.Proof.KFrame
public import proofs.«01_k».proof.Proof.BFrame
public import proofs.«01_k».proof.Proof.Tame
public import proofs.«01_k».proof.Proof.Gen.ReferenceIdeal.Run
public import Idealize.ShloMosaic.Lib.Quiescent

@[expose] public section

noncomputable section

namespace Cert.Proof

open Idealize.ShloMosaic Idealize.SL.Sem

/-- The kernel as printed runs, keeps its arguments and ends with every counter at zero. -/
theorem frame_p : @Cert.quiescent_Kernel Cert.Kernel.Gen.facts := fun m ρ _ => Cert.Kernel.Gen.frame m ρ

/-- The idealized kernel likewise. -/
theorem frame_pi : @Cert.quiescent_KernelIdeal Cert.KernelIdeal.Gen.facts := fun m ρ _ => Cert.KernelIdeal.Gen.frame m ρ

/-- The reference likewise: it has no counters, and its run keeps its arguments. -/
theorem frame_ri : @Cert.quiescent_ReferenceIdeal Cert.ReferenceIdeal.Gen.facts := by
  intro m ρ _
  exact (θ_run Cert.ReferenceIdeal.defs _ _).mono
    (fun r h => ⟨fun c => (h c).2.2.2.2, Idealize.ShloMosaic.sem_eq_zero_of_no_sems (by decide) r.2⟩)
    (Cert.ReferenceIdeal.Value.run (F := Ideal) m ρ)

/-- The two idealized programs' frames hold of every initial memory, so of those that meet the precondition. -/
theorem frame_pi_tame : @Cert.quiescent_KernelIdeal_pre_tame Cert.KernelIdeal.Gen.facts tame_facts := fun m ρ _ => frame_pi m ρ trivial

theorem frame_ri_tame : @Cert.quiescent_ReferenceIdeal_pre_tame Cert.ReferenceIdeal.Gen.facts tame_facts := fun m ρ _ => frame_ri m ρ trivial

end Cert.Proof

end
-- ==== Proof.Values.lean ====
/- The kernel's four results are the reference's functions of the arguments. -/
module

public import proofs.«01_k».proof.Proof.Tame

@[expose] public section

set_option maxRecDepth 16384

noncomputable section

namespace Cert.Proof

open Cert.Spec Idealize.ShloMosaic
open Cert.KernelIdeal Cert.KernelIdeal.Gen
open Cert.ReferenceIdeal.Gen (rmask rfeat rmask_at rfeat_at)

/-- An array is a function of natural numbers at its indices, and a property of its entries holds of the function everywhere. -/
theorem ext1 {n : ℕ} (p : EReal → Prop) (z : EReal) (hz : p z) (x : Vec Ideal (⟨1, ![n]⟩ : Shape) .f32) (h : ∀ j, p (x j)) :
    ∃ f : ℕ → EReal, (∀ a, p (f a)) ∧ ∀ a, x (ix1 a) = f a := by
  refine ⟨fun a => if ha : a < n then x (ix1 ⟨a, ha⟩) else z, fun a => ?_, fun a => ?_⟩
  · dsimp only; split
    · exact h _
    · exact hz
  · dsimp only; rw [dif_pos a.2]

theorem ext2 {n0 n1 : ℕ} (p : EReal → Prop) (z : EReal) (hz : p z) (x : Vec Ideal (⟨2, ![n0, n1]⟩ : Shape) .f32) (h : ∀ j, p (x j)) :
    ∃ f : ℕ → ℕ → EReal, (∀ a b, p (f a b)) ∧ ∀ a b, x (ix2 a b) = f a b := by
  refine ⟨fun a b => if ha : a < n0 ∧ b < n1 then x (ix2 ⟨a, ha.1⟩ ⟨b, ha.2⟩) else z, fun a b => ?_, fun a b => ?_⟩
  · dsimp only; split
    · exact h _
    · exact hz
  · dsimp only; rw [dif_pos ⟨a.2, b.2⟩]

theorem ext4 {n0 n1 n2 n3 : ℕ} (p : EReal → Prop) (z : EReal) (hz : p z) (x : Vec Ideal (⟨4, ![n0, n1, n2, n3]⟩ : Shape) .f32) (h : ∀ j, p (x j)) :
    ∃ f : ℕ → ℕ → ℕ → ℕ → EReal, (∀ a b c d, p (f a b c d)) ∧ ∀ a b c d, x (ix4 a b c d) = f a b c d := by
  refine ⟨fun a b c d => if ha : a < n0 ∧ b < n1 ∧ c < n2 ∧ d < n3 then x (ix4 ⟨a, ha.1⟩ ⟨b, ha.2.1⟩ ⟨c, ha.2.2.1⟩ ⟨d, ha.2.2.2⟩) else z,
    fun a b c d => ?_, fun a b c d => ?_⟩
  · dsimp only; split
    · exact h _
    · exact hz
  · dsimp only; rw [dif_pos ⟨a.2, b.2, c.2, d.2⟩]

variable (m : (ℓ : Loc nD τ sig) → Buf (Elt Ideal) ℓ) (c : Dev nD)

/-- The argument arrays as vectors of extended reals. -/
abbrev x0 : Vec Ideal S2x32x56x56 .f32 := m ((c.tc : Thread nD τ).loc main_arg0)
abbrev x1 : Vec Ideal S2x32x56x56 .f32 := m ((c.tc : Thread nD τ).loc main_arg1)
abbrev x2 : Vec Ideal S32x32x3x3 .f32 := m ((c.tc : Thread nD τ).loc main_arg2)
abbrev x3 : Vec Ideal S32 .f32 := m ((c.tc : Thread nD τ).loc main_arg3)
abbrev x4 : Vec Ideal S32 .f32 := m ((c.tc : Thread nD τ).loc main_arg4)
abbrev x5 : Vec Ideal S32 .f32 := m ((c.tc : Thread nD τ).loc main_arg5)
abbrev x6 : Vec Ideal S32 .f32 := m ((c.tc : Thread nD τ).loc main_arg6)
abbrev x7 : Vec Ideal S32x32x3x3 .f32 := m ((c.tc : Thread nD τ).loc main_arg7)
abbrev x8 : Vec Ideal S1x32x3x3 .f32 := m ((c.tc : Thread nD τ).loc main_arg8)
abbrev x9 : Vec Ideal S96x32x1x1 .f32 := m ((c.tc : Thread nD τ).loc main_arg9)
abbrev x10 : Vec Ideal S32x32x1x1 .f32 := m ((c.tc : Thread nD τ).loc main_arg10)
abbrev x11 : Vec Ideal S32 .f32 := m ((c.tc : Thread nD τ).loc main_arg11)
abbrev x12 : Vec Ideal S4x121 .f32 := m ((c.tc : Thread nD τ).loc main_arg12)

/-- The four results that the claim compares, as the reference's functions of the arguments. -/
def mask0 : Vec Ideal S2x1x56x56 .f32 := rmask (x0 m c) (x2 m c) (x3 m c) (x4 m c) (x5 m c) (x6 m c) (x7 m c) (x8 m c)
def mask1 : Vec Ideal S2x1x56x56 .f32 := rmask (x1 m c) (x2 m c) (x3 m c) (x4 m c) (x5 m c) (x6 m c) (x7 m c) (x8 m c)
def feat0 : Vec Ideal S2x32x56x56 .f32 := rfeat (x0 m c) (mask0 m c) (x9 m c) (x10 m c) (x11 m c) (x12 m c)
def feat1 : Vec Ideal S2x32x56x56 .f32 := rfeat (x1 m c) (mask1 m c) (x9 m c) (x10 m c) (x11 m c) (x12 m c)

/-- Under the precondition, the kernel's program leaves exactly those four arrays. -/
theorem values (h0 : ∀ j, Fine (x0 m c j)) (h1 : ∀ j, Fine (x1 m c j)) (h3 : ∀ j, Fine (x3 m c j)) (h5 : ∀ j, Fine (x5 m c j)) (h9 : ∀ j, Fine (x9 m c j))
    (h12 : ∀ j, Fine (x12 m c j)) (h6 : ∀ j, x6 m c j + Ideal.ofBits .f32 0x3727C5AC#32 ≠ 0) :
    Pipeline.afterTail₀ cfgs (dats m) 0 (V0 m) [hostOps1] c main_v22 = feat0 m c
      ∧ Pipeline.afterTail₀ cfgs (dats m) 0 (V0 m) [hostOps1] c main_v23 = feat1 m c
      ∧ Pipeline.afterTail₀ cfgs (dats m) 0 (V0 m) [hostOps1] c main_v24 = mask0 m c
      ∧ Pipeline.afterTail₀ cfgs (dats m) 0 (V0 m) [hostOps1] c main_v25 = mask1 m c := by
  obtain ⟨L, hL, g0⟩ := ext4 Fine 0 .zero (x0 m c) h0
  obtain ⟨R, hR, g1⟩ := ext4 Fine 0 .zero (x1 m c) h1
  obtain ⟨W1, -, g2⟩ := ext4 (fun _ => True) 0 trivial (x2 m c) fun _ => trivial
  obtain ⟨gam, hg, g3⟩ := ext1 Fine 0 .zero (x3 m c) h3
  obtain ⟨bet, -, g4⟩ := ext1 (fun _ => True) 0 trivial (x4 m c) fun _ => trivial
  obtain ⟨mu, hmu, g5⟩ := ext1 Fine 0 .zero (x5 m c) h5
  obtain ⟨vr, hvr, g6⟩ := ext1 (fun y => y + Ideal.ofBits .f32 0x3727C5AC#32 ≠ 0) (x6 m c (ix1 0)) (h6 _) (x6 m c) h6
  obtain ⟨W2, -, g7⟩ := ext4 (fun _ => True) 0 trivial (x7 m c) fun _ => trivial
  obtain ⟨W3, -, g8⟩ := ext4 (fun _ => True) 0 trivial (x8 m c) fun _ => trivial
  obtain ⟨W, hW, g9⟩ := ext4 Fine 0 .zero (x9 m c) h9
  obtain ⟨P, -, g10⟩ := ext4 (fun _ => True) 0 trivial (x10 m c) fun _ => trivial
  obtain ⟨b, -, g11⟩ := ext1 (fun _ => True) 0 trivial (x11 m c) fun _ => trivial
  obtain ⟨E, hE, g12⟩ := ext2 Fine 0 .zero (x12 m c) h12
  have hbn := bn_eq gam bet mu vr hg hmu hvr
  have m0 : ∀ a o h q, mask0 m c (ix4 a o h q) = maskVal (L a) W1 W2 W3 (kbn gam bet mu vr) h q := fun a o h q =>
    (rmask_at (x0 m c) L (x2 m c) (x7 m c) (x8 m c) (x3 m c) (x4 m c) (x5 m c) (x6 m c) W1 W2 W3 gam bet mu vr g0 g2 g3 g4 g5 g6 g7 g8 a o h q).trans (by rw [hbn])
  have m1 : ∀ a o h q, mask1 m c (ix4 a o h q) = maskVal (R a) W1 W2 W3 (kbn gam bet mu vr) h q := fun a o h q =>
    (rmask_at (x1 m c) R (x2 m c) (x7 m c) (x8 m c) (x3 m c) (x4 m c) (x5 m c) (x6 m c) W1 W2 W3 gam bet mu vr g1 g2 g3 g4 g5 g6 g7 g8 a o h q).trans (by rw [hbn])
  refine ⟨funext fun j => ?_, funext fun j => ?_, funext fun j => ?_, funext fun j => ?_⟩ <;> obtain ⟨a, d, h, w, rfl⟩ := (⟨_, _, _, _, eq_ix4 j⟩ : ∃ a d h w, j = ix4 a d h w)
  · exact (out_22 m c L R W1 W2 W3 W P gam bet mu vr b E g0 g1 g2 g3 g4 g5 g6 g7 g8 g9 g10 g11 g12 a d h w).trans
      ((feat_eq (L a) (fun o k => W o k 0 0) _ E (fun o k => P o k 0 0) b (hL a) (fun o k => hW o k 0 0) hE (fun _ _ => .bit _) d h w).trans
        (rfeat_at (x0 m c) (mask0 m c) (x9 m c) (x10 m c) (x11 m c) (x12 m c) L (fun a => maskVal (L a) W1 W2 W3 (kbn gam bet mu vr)) W P b E g0 m0 g9 g10 g11 g12 a d h w).symm)
  · exact (out_23 m c L R W1 W2 W3 W P gam bet mu vr b E g0 g1 g2 g3 g4 g5 g6 g7 g8 g9 g10 g11 g12 a d h w).trans
      ((feat_eq (R a) (fun o k => W o k 0 0) _ E (fun o k => P o k 0 0) b (hR a) (fun o k => hW o k 0 0) hE (fun _ _ => .bit _) d h w).trans
        (rfeat_at (x1 m c) (mask1 m c) (x9 m c) (x10 m c) (x11 m c) (x12 m c) R (fun a => maskVal (R a) W1 W2 W3 (kbn gam bet mu vr)) W P b E g1 m1 g9 g10 g11 g12 a d h w).symm)
  · exact (out_24 m c L R W1 W2 W3 gam bet mu vr g0 g1 g2 g3 g4 g5 g6 g7 g8 a d h w).trans (m0 a d h w).symm
  · exact (out_25 m c L R W1 W2 W3 gam bet mu vr g0 g1 g2 g3 g4 g5 g6 g7 g8 a d h w).trans (m1 a d h w).symm

end Cert.Proof

end
-- ==== Proof.RValue.lean ====
/- The reference's run ends with its four results at the two functions of its arguments. -/
module

public import proofs.«01_k».proof.Proof.Gen.ReferenceIdeal.Run
public import proofs.«01_k».proof.Proof.RMask
public import proofs.«01_k».proof.Proof.RFeat

@[expose] public section

set_option maxRecDepth 16384

noncomputable section

namespace Cert.ReferenceIdeal.Gen

open Idealize.ShloMosaic Idealize.SL.Sem Cert.ReferenceIdeal

variable (m : (ℓ : Loc nD τ sig) → Buf (Elt Ideal) ℓ)

/-- The two masks and the two feature maps of an initial memory. -/
def rmask0 (c : Dev nD) : Vec Ideal S2x1x56x56 .f32 :=
  rmask (m ((c.tc : Thread nD τ).loc main_arg0)) (m ((c.tc : Thread nD τ).loc main_arg2)) (m ((c.tc : Thread nD τ).loc main_arg3)) (m ((c.tc : Thread nD τ).loc main_arg4))
    (m ((c.tc : Thread nD τ).loc main_arg5)) (m ((c.tc : Thread nD τ).loc main_arg6)) (m ((c.tc : Thread nD τ).loc main_arg7)) (m ((c.tc : Thread nD τ).loc main_arg8))
def rmask1 (c : Dev nD) : Vec Ideal S2x1x56x56 .f32 :=
  rmask (m ((c.tc : Thread nD τ).loc main_arg1)) (m ((c.tc : Thread nD τ).loc main_arg2)) (m ((c.tc : Thread nD τ).loc main_arg3)) (m ((c.tc : Thread nD τ).loc main_arg4))
    (m ((c.tc : Thread nD τ).loc main_arg5)) (m ((c.tc : Thread nD τ).loc main_arg6)) (m ((c.tc : Thread nD τ).loc main_arg7)) (m ((c.tc : Thread nD τ).loc main_arg8))
def rfeat0 (c : Dev nD) : Vec Ideal S2x32x56x56 .f32 :=
  rfeat (m ((c.tc : Thread nD τ).loc main_arg0)) (rmask0 m c) (m ((c.tc : Thread nD τ).loc main_arg9)) (m ((c.tc : Thread nD τ).loc main_arg10))
    (m ((c.tc : Thread nD τ).loc main_arg11)) (m ((c.tc : Thread nD τ).loc main_arg12))
def rfeat1 (c : Dev nD) : Vec Ideal S2x32x56x56 .f32 :=
  rfeat (m ((c.tc : Thread nD τ).loc main_arg1)) (rmask1 m c) (m ((c.tc : Thread nD τ).loc main_arg9)) (m ((c.tc : Thread nD τ).loc main_arg10))
    (m ((c.tc : Thread nD τ).loc main_arg11)) (m ((c.tc : Thread nD τ).loc main_arg12))

theorem run_values (ρ : Dev nD → PrngReg) :
    θ_run (defs (F := Ideal)) (onTc (τ := τ) (main (F := Ideal))) ⟨m, fun _ => 0, ρ⟩ fun r => ∀ c : Dev nD,
      r.2.mem ((c.tc : Thread nD τ).loc main_v277) = rfeat0 m c
      ∧ r.2.mem ((c.tc : Thread nD τ).loc main_v395) = rfeat1 m c
      ∧ r.2.mem ((c.tc : Thread nD τ).loc main_v79) = rmask0 m c
      ∧ r.2.mem ((c.tc : Thread nD τ).loc main_v159) = rmask1 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) := by
  refine (θ_run _ _ _).mono ?_ (Cert.ReferenceIdeal.Value.run (F := Ideal) m ρ)
  intro r h c
  obtain ⟨e0, e1, e2, e3, e⟩ := h c
  refine ⟨e0.trans ?_, e1.trans ?_, e2.trans ?_, e3.trans ?_, e⟩
  · rfl
  · rfl
  · rfl
  · rfl

end Cert.ReferenceIdeal.Gen

end
-- ==== Proof.Algebraic.lean ====
/- The idealized kernel and the reference end with equal results under the precondition. -/
module

public import proofs.«01_k».proof.Defs
public import proofs.«01_k».proof.Proof.Values
public import proofs.«01_k».proof.Proof.RValue
public import proofs.«01_k».proof.Proof.KFrame

@[expose] public section

noncomputable section

namespace Cert.Proof

open Idealize.ShloMosaic Idealize.SL.Sem

/-- The kernel's run ends with the reference's functions of its arguments in its four results. -/
theorem kernel_values (m : (ℓ : Loc Cert.KernelIdeal.nD Cert.KernelIdeal.τ Cert.KernelIdeal.sig) → Buf (Elt Ideal) ℓ) (ρ : Dev Cert.KernelIdeal.nD → PrngReg)
    (hp : @Cert.Pre_KernelIdeal_tame tame_facts m) (r : PUnit × MemSt Cert.KernelIdeal.nD Cert.KernelIdeal.τ Cert.KernelIdeal.sig (Elt Ideal))
    (h : Pipeline.FramePost Cert.KernelIdeal.cfgs (Cert.KernelIdeal.Gen.dats m) 0
      (Pipeline.afterTail₀ Cert.KernelIdeal.cfgs (Cert.KernelIdeal.Gen.dats m) 0 (Cert.KernelIdeal.Gen.V0 m) [Cert.KernelIdeal.Gen.hostOps1]) r)
    (c : Dev Cert.KernelIdeal.nD) :
    r.2.mem ((c.tc : Thread Cert.KernelIdeal.nD Cert.KernelIdeal.τ).loc Cert.KernelIdeal.main_v22) = feat0 m c
      ∧ r.2.mem ((c.tc : Thread Cert.KernelIdeal.nD Cert.KernelIdeal.τ).loc Cert.KernelIdeal.main_v23) = feat1 m c
      ∧ r.2.mem ((c.tc : Thread Cert.KernelIdeal.nD Cert.KernelIdeal.τ).loc Cert.KernelIdeal.main_v24) = mask0 m c
      ∧ r.2.mem ((c.tc : Thread Cert.KernelIdeal.nD Cert.KernelIdeal.τ).loc Cert.KernelIdeal.main_v25) = mask1 m c := by
  obtain ⟨h0, h1, h3, h5, h9, h12, h6⟩ := @tame_of tame_facts (x0 m c) (x1 m c) (x2 m c) (x3 m c) (x4 m c) (x5 m c) (x6 m c) (x7 m c) (x8 m c) (x9 m c)
    (x10 m c) (x11 m c) (x12 m c) (hp c)
  obtain ⟨e0, e1, e2, e3⟩ := values m c h0 h1 h3 h5 h9 h12 h6
  exact ⟨(h.rest_eq c _ (by decide)).trans e0, (h.rest_eq c _ (by decide)).trans e1, (h.rest_eq c _ (by decide)).trans e2, (h.rest_eq c _ (by decide)).trans e3⟩

/-- The equality of the four results on all memories that meet the precondition. -/
theorem algebraic : @Cert.algebraic_KernelIdeal_ReferenceIdeal_pre_tame Cert.KernelIdeal.Gen.facts Cert.ReferenceIdeal.Gen.facts tame_facts := by
  intro m g m' g' hp hm
  refine ⟨fun c => feat0 m c, fun c => feat1 m c, fun c => mask0 m c, fun c => mask1 m c, ?_, ?_⟩
  · refine (θ_run _ _ _).mono ?_ (Cert.KernelIdeal.Gen.run_main m g)
    intro r h c
    obtain ⟨e0, e1, e2, e3⟩ := kernel_values m g hp r h c
    exact ⟨e0, e1, e2, e3, (h.rest_eq c Cert.KernelIdeal.main_arg0 (Pipeline.mem_restRefs_of Cert.KernelIdeal.main_arg0 (by decide) (by decide))).trans (Cert.KernelIdeal.Gen.W_main_arg0 m (Cert.KernelIdeal.Gen.dats m) c),
      (h.rest_eq c Cert.KernelIdeal.main_arg1 (Pipeline.mem_restRefs_of Cert.KernelIdeal.main_arg1 (by decide) (by decide))).trans (Cert.KernelIdeal.Gen.W_main_arg1 m (Cert.KernelIdeal.Gen.dats m) c),
      (h.rest_eq c Cert.KernelIdeal.main_arg2 (Pipeline.mem_restRefs_of Cert.KernelIdeal.main_arg2 (by decide) (by decide))).trans (Cert.KernelIdeal.Gen.W_main_arg2 m (Cert.KernelIdeal.Gen.dats m) c),
      (h.rest_eq c Cert.KernelIdeal.main_arg3 (Pipeline.mem_restRefs_of Cert.KernelIdeal.main_arg3 (by decide) (by decide))).trans (Cert.KernelIdeal.Gen.W_main_arg3 m (Cert.KernelIdeal.Gen.dats m) c),
      (h.rest_eq c Cert.KernelIdeal.main_arg4 (Pipeline.mem_restRefs_of Cert.KernelIdeal.main_arg4 (by decide) (by decide))).trans (Cert.KernelIdeal.Gen.W_main_arg4 m (Cert.KernelIdeal.Gen.dats m) c),
      (h.rest_eq c Cert.KernelIdeal.main_arg5 (Pipeline.mem_restRefs_of Cert.KernelIdeal.main_arg5 (by decide) (by decide))).trans (Cert.KernelIdeal.Gen.W_main_arg5 m (Cert.KernelIdeal.Gen.dats m) c),
      (h.rest_eq c Cert.KernelIdeal.main_arg6 (Pipeline.mem_restRefs_of Cert.KernelIdeal.main_arg6 (by decide) (by decide))).trans (Cert.KernelIdeal.Gen.W_main_arg6 m (Cert.KernelIdeal.Gen.dats m) c),
      (h.rest_eq c Cert.KernelIdeal.main_arg7 (Pipeline.mem_restRefs_of Cert.KernelIdeal.main_arg7 (by decide) (by decide))).trans (Cert.KernelIdeal.Gen.W_main_arg7 m (Cert.KernelIdeal.Gen.dats m) c),
      (h.rest_eq c Cert.KernelIdeal.main_arg8 (Pipeline.mem_restRefs_of Cert.KernelIdeal.main_arg8 (by decide) (by decide))).trans (Cert.KernelIdeal.Gen.W_main_arg8 m (Cert.KernelIdeal.Gen.dats m) c),
      (h.rest_eq c Cert.KernelIdeal.main_arg9 (Pipeline.mem_restRefs_of Cert.KernelIdeal.main_arg9 (by decide) (by decide))).trans (Cert.KernelIdeal.Gen.W_main_arg9 m (Cert.KernelIdeal.Gen.dats m) c),
      (h.rest_eq c Cert.KernelIdeal.main_arg10 (Pipeline.mem_restRefs_of Cert.KernelIdeal.main_arg10 (by decide) (by decide))).trans (Cert.KernelIdeal.Gen.W_main_arg10 m (Cert.KernelIdeal.Gen.dats m) c),
      (h.rest_eq c Cert.KernelIdeal.main_arg11 (Pipeline.mem_restRefs_of Cert.KernelIdeal.main_arg11 (by decide) (by decide))).trans (Cert.KernelIdeal.Gen.W_main_arg11 m (Cert.KernelIdeal.Gen.dats m) c),
      (h.rest_eq c Cert.KernelIdeal.main_arg12 (Pipeline.mem_restRefs_of Cert.KernelIdeal.main_arg12 (by decide) (by decide))).trans (Cert.KernelIdeal.Gen.W_main_arg12 m (Cert.KernelIdeal.Gen.dats m) c)⟩
  · refine (θ_run _ _ _).mono ?_ (Cert.ReferenceIdeal.Gen.run_values m' g')
    intro r h c
    obtain ⟨a0, a1, a2, a3, a4, a5, a6, a7, a8, a9, a10, a11, a12⟩ := hm c
    obtain ⟨e0, e1, e2, e3, e⟩ := h c
    have k0 : Cert.ReferenceIdeal.Gen.rmask0 m' c = mask0 m c := by
      unfold Cert.ReferenceIdeal.Gen.rmask0 mask0
      rw [a0, a2, a3, a4, a5, a6, a7, a8]
    have k1 : Cert.ReferenceIdeal.Gen.rmask1 m' c = mask1 m c := by
      unfold Cert.ReferenceIdeal.Gen.rmask1 mask1
      rw [a1, a2, a3, a4, a5, a6, a7, a8]
    have f0 : Cert.ReferenceIdeal.Gen.rfeat0 m' c = feat0 m c := by
      unfold Cert.ReferenceIdeal.Gen.rfeat0 feat0
      rw [k0, a0, a9, a10, a11, a12]
    have f1 : Cert.ReferenceIdeal.Gen.rfeat1 m' c = feat1 m c := by
      unfold Cert.ReferenceIdeal.Gen.rfeat1 feat1
      rw [k1, a1, a9, a10, a11, a12]
    exact ⟨e0.trans f0, e1.trans f1, e2.trans k0, e3.trans k1, e⟩

end Cert.Proof

end
-- ==== Proof.lean ====
module

public import proofs.«01_k».proof.Defs
public import proofs.«01_k».proof.Proof.Frames
public import proofs.«01_k».proof.Proof.Algebraic

@[expose] public section

noncomputable section

namespace Cert.Proof

open Idealize.ShloMosaic Idealize.SL.Sem

/-- The claims of the certificate. -/
theorem claim : Cert.Claim := ⟨Cert.Kernel.Gen.facts, Cert.KernelIdeal.Gen.facts, Cert.ReferenceIdeal.Gen.facts, tame_facts,
  frame_p, frame_pi, frame_pi_tame, frame_ri, frame_ri_tame, trivial, algebraic⟩

end Cert.Proof

end
